-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S100000x128 : Shape := ⟨2, ![100000, 128]⟩
abbrev S8x50000 : Shape := ⟨2, ![8, 50000]⟩
abbrev S_ : Shape := ⟨0, ![]⟩

class Facts : Prop where
  bcast_S_S8x50000 : S_.BroadcastsInDim S8x50000 (![] : Fin 0 → Fin S8x50000.rank)
  reducesTo_S8x50000_S_d0_1 : S8x50000.ReducesTo [0, 1] S_
  h_S_ : 0 < S_.numel

variable [Facts]

def fn {F : FTy → Type} [FloatOps F] (main_arg0 : FVec F S100000x128 .f32) (main_arg1 : IVec S8x50000 32) : IVec S_ 1 :=
  let main_c : IVec S_ 32 := constantI S_ 32 0#32
  let main_v0 : IVec S8x50000 32 := broadcastInDim S8x50000 ![] bcast_S_S8x50000 main_c
  let main_v1 : IVec S8x50000 1 := cmpi .sge main_arg1 main_v0
  let main_c_0 : IVec S_ 32 := constantI S_ 32 100000#32
  let main_v2 : IVec S8x50000 32 := broadcastInDim S8x50000 ![] bcast_S_S8x50000 main_c_0
  let main_v3 : IVec S8x50000 1 := cmpi .slt main_arg1 main_v2
  let main_v4 : IVec S8x50000 1 := andi main_v1 main_v3
  let main_c_1 : IVec S_ 1 := constantI S_ 1 1#1
  let main_v5 : IVec S_ 1 := (fun x v => Host.reduce IntOp.andi x v reducesTo_S8x50000_S_d0_1 h_S_) main_v4 main_c_1
  main_v5
-- ==== Kernel.lean ====
abbrev S100000x128 : Shape := ⟨2, ![100000, 128]⟩
abbrev S8x50000 : Shape := ⟨2, ![8, 50000]⟩
abbrev S400000 : Shape := ⟨1, ![400000]⟩
abbrev S50000x128 : Shape := ⟨2, ![50000, 128]⟩
abbrev S8x80 : Shape := ⟨2, ![8, 80]⟩
abbrev S8x80x128 : Shape := ⟨3, ![8, 80, 128]⟩
abbrev S80x128 : Shape := ⟨2, ![80, 128]⟩
abbrev S_ : Shape := ⟨0, ![]⟩
abbrev S1x80 : Shape := ⟨2, ![1, 80]⟩
abbrev S80 : Shape := ⟨1, ![80]⟩
abbrev S1x80x128 : Shape := ⟨3, ![1, 80, 128]⟩
abbrev S1x1x16 : Shape := ⟨3, ![1, 1, 16]⟩
abbrev S16 : Shape := ⟨1, ![16]⟩
abbrev S1x16 : Shape := ⟨2, ![1, 16]⟩

abbrev nBuf : Table → Nat
  | .hbm => 4
  | .local .scVector .vmem => 3
  | _ => 0

abbrev bufTy : (tb : Table) → Fin (nBuf tb) → BufTy
  | .hbm, ⟨0, _⟩ => ⟨S100000x128, .f32⟩
  | .hbm, ⟨1, _⟩ => ⟨S8x50000, .i32⟩
  | .hbm, ⟨2, _⟩ => ⟨S400000, .i32⟩
  | .hbm, ⟨3, _⟩ => ⟨S50000x128, .f32⟩
  | .local .scVector .vmem, ⟨0, _⟩ => ⟨S8x80, .i32⟩
  | .local .scVector .vmem, ⟨1, _⟩ => ⟨S8x80x128, .f32⟩
  | .local .scVector .vmem, ⟨2, _⟩ => ⟨S80x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_6 : BitVec 32 := 0#32
  let c624_i32 : BitVec 32 := 624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_8 : BitVec 32 := 1#32
  ⟨c0_i32_6, v25, c1_i32_8⟩
def k0_off1 (i : grid0.Coords) (k0_t1 : Fin (k0_t1_loop i).trips) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let c1_i32_8 : BitVec 32 := 1#32
  let arg10 : BitVec 32 := Scf.iv c0_i32_6 c1_i32_8 k0_t1
  let c32_i32_10 : BitVec 32 := 32#32
  let v26 : BitVec 32 := Scalar.muli arg10 c32_i32_10
  let v27 : BitVec 32 := Scalar.addi v1 v26
  let c80_i32 : BitVec 32 := 80#32
  let v28 : BitVec 32 := Scalar.muli v27 c80_i32
  let v29 : BitVec 32 := Scalar.addi c0_i32_11 v28
  ![v29.toNat]
@[reducible] def k0_t2_loop : Scf.Loop 32 :=
  let c0_i32_128 : BitVec 32 := 0#32
  let c80_i32_129 : BitVec 32 := 80#32
  let v117 : BitVec 32 := Scalar.addi c0_i32_128 c80_i32_129
  let c1_i32_130 : BitVec 32 := 1#32
  ⟨c0_i32_128, v117, c1_i32_130⟩
def k0_off2 (k0_t2 : Fin k0_t2_loop.trips) : Fin 3 → Nat :=
  let c0_i32_136 : BitVec 32 := 0#32
  let v122 : Index := Scalar.indexCast c0_i32_136
  let c0_i32_128 : BitVec 32 := 0#32
  let c1_i32_130 : BitVec 32 := 1#32
  let arg11 : BitVec 32 := Scf.iv c0_i32_128 c1_i32_130 k0_t2
  let v123 : Index := Scalar.indexCast arg11
  let c0 : Index := 0#32
  ![0, v123.toNat, 0]
def k0_off3 (k0_t2 : Fin k0_t2_loop.trips) : Fin 3 → Nat :=
  let c1_i32_137 : BitVec 32 := 1#32
  let v126 : Index := Scalar.indexCast c1_i32_137
  let c0_i32_128 : BitVec 32 := 0#32
  let c1_i32_130 : BitVec 32 := 1#32
  let arg11 : BitVec 32 := Scf.iv c0_i32_128 c1_i32_130 k0_t2
  let v127 : Index := Scalar.indexCast arg11
  let c0_138 : Index := 0#32
  ![1, v127.toNat, 0]
def k0_off4 (k0_t2 : Fin k0_t2_loop.trips) : Fin 3 → Nat :=
  let c2_i32_139 : BitVec 32 := 2#32
  let v131 : Index := Scalar.indexCast c2_i32_139
  let c0_i32_128 : BitVec 32 := 0#32
  let c1_i32_130 : BitVec 32 := 1#32
  let arg11 : BitVec 32 := Scf.iv c0_i32_128 c1_i32_130 k0_t2
  let v132 : Index := Scalar.indexCast arg11
  let c0_140 : Index := 0#32
  ![2, v132.toNat, 0]
def k0_off5 (k0_t2 : Fin k0_t2_loop.trips) : Fin 3 → Nat :=
  let c3_i32_141 : BitVec 32 := 3#32
  let v136 : Index := Scalar.indexCast c3_i32_141
  let c0_i32_128 : BitVec 32 := 0#32
  let c1_i32_130 : BitVec 32 := 1#32
  let arg11 : BitVec 32 := Scf.iv c0_i32_128 c1_i32_130 k0_t2
  let v137 : Index := Scalar.indexCast arg11
  let c0_142 : Index := 0#32
  ![3, v137.toNat, 0]
def k0_off6 (k0_t2 : Fin k0_t2_loop.trips) : Fin 3 → Nat :=
  let c4_i32_143 : BitVec 32 := 4#32
  let v141 : Index := Scalar.indexCast c4_i32_143
  let c0_i32_128 : BitVec 32 := 0#32
  let c1_i32_130 : BitVec 32 := 1#32
  let arg11 : BitVec 32 := Scf.iv c0_i32_128 c1_i32_130 k0_t2
  let v142 : Index := Scalar.indexCast arg11
  let c0_144 : Index := 0#32
  ![4, v142.toNat, 0]
def k0_off7 (k0_t2 : Fin k0_t2_loop.trips) : Fin 3 → Nat :=
  let c5_i32_145 : BitVec 32 := 5#32
  let v146 : Index := Scalar.indexCast c5_i32_145
  let c0_i32_128 : BitVec 32 := 0#32
  let c1_i32_130 : BitVec 32 := 1#32
  let arg11 : BitVec 32 := Scf.iv c0_i32_128 c1_i32_130 k0_t2
  let v147 : Index := Scalar.indexCast arg11
  let c0_146 : Index := 0#32
  ![5, v147.toNat, 0]
def k0_off8 (k0_t2 : Fin k0_t2_loop.trips) : Fin 3 → Nat :=
  let c6_i32_147 : BitVec 32 := 6#32
  let v151 : Index := Scalar.indexCast c6_i32_147
  let c0_i32_128 : BitVec 32 := 0#32
  let c1_i32_130 : BitVec 32 := 1#32
  let arg11 : BitVec 32 := Scf.iv c0_i32_128 c1_i32_130 k0_t2
  let v152 : Index := Scalar.indexCast arg11
  let c0_148 : Index := 0#32
  ![6, v152.toNat, 0]
def k0_off9 (k0_t2 : Fin k0_t2_loop.trips) : Fin 3 → Nat :=
  let c7_i32_149 : BitVec 32 := 7#32
  let v156 : Index := Scalar.indexCast c7_i32_149
  let c0_i32_128 : BitVec 32 := 0#32
  let c1_i32_130 : BitVec 32 := 1#32
  let arg11 : BitVec 32 := Scf.iv c0_i32_128 c1_i32_130 k0_t2
  let v157 : Index := Scalar.indexCast arg11
  let c0_150 : Index := 0#32
  ![7, v157.toNat, 0]
def k0_off10 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v163 : Index := Scalar.indexCast arg11
  let c0_151 : Index := 0#32
  ![v163.toNat, 0]
def k0_off11 (k0_t2 : Fin k0_t2_loop.trips) : Fin 3 → Nat :=
  let c0_i32_152 : BitVec 32 := 0#32
  let v167 : Index := Scalar.indexCast c0_i32_152
  let c0_i32_128 : BitVec 32 := 0#32
  let c1_i32_130 : BitVec 32 := 1#32
  let arg11 : BitVec 32 := Scf.iv c0_i32_128 c1_i32_130 k0_t2
  let v168 : Index := Scalar.indexCast arg11
  let c16 : Index := 16#32
  ![0, v168.toNat, 16]
def k0_off12 (k0_t2 : Fin k0_t2_loop.trips) : Fin 3 → Nat :=
  let c1_i32_153 : BitVec 32 := 1#32
  let v171 : Index := Scalar.indexCast c1_i32_153
  let c0_i32_128 : BitVec 32 := 0#32
  let c1_i32_130 : BitVec 32 := 1#32
  let arg11 : BitVec 32 := Scf.iv c0_i32_128 c1_i32_130 k0_t2
  let v172 : Index := Scalar.indexCast arg11
  let c16_154 : Index := 16#32
  ![1, v172.toNat, 16]
def k0_off13 (k0_t2 : Fin k0_t2_loop.trips) : Fin 3 → Nat :=
  let c2_i32_155 : BitVec 32 := 2#32
  let v176 : Index := Scalar.indexCast c2_i32_155
  let c0_i32_128 : BitVec 32 := 0#32
  let c1_i32_130 : BitVec 32 := 1#32
  let arg11 : BitVec 32 := Scf.iv c0_i32_128 c1_i32_130 k0_t2
  let v177 : Index := Scalar.indexCast arg11
  let c16_156 : Index := 16#32
  ![2, v177.toNat, 16]
def k0_off14 (k0_t2 : Fin k0_t2_loop.trips) : Fin 3 → Nat :=
  let c3_i32_157 : BitVec 32 := 3#32
  let v181 : Index := Scalar.indexCast c3_i32_157
  let c0_i32_128 : BitVec 32 := 0#32
  let c1_i32_130 : BitVec 32 := 1#32
  let arg11 : BitVec 32 := Scf.iv c0_i32_128 c1_i32_130 k0_t2
  let v182 : Index := Scalar.indexCast arg11
  let c16_158 : Index := 16#32
  ![3, v182.toNat, 16]
def k0_off15 (k0_t2 : Fin k0_t2_loop.trips) : Fin 3 → Nat :=
  let c4_i32_159 : BitVec 32 := 4#32
  let v186 : Index := Scalar.indexCast c4_i32_159
  let c0_i32_128 : BitVec 32 := 0#32
  let c1_i32_130 : BitVec 32 := 1#32
  let arg11 : BitVec 32 := Scf.iv c0_i32_128 c1_i32_130 k0_t2
  let v187 : Index := Scalar.indexCast arg11
  let c16_160 : Index := 16#32
  ![4, v187.toNat, 16]
def k0_off16 (k0_t2 : Fin k0_t2_loop.trips) : Fin 3 → Nat :=
  let c5_i32_161 : BitVec 32 := 5#32
  let v191 : Index := Scalar.indexCast c5_i32_161
  let c0_i32_128 : BitVec 32 := 0#32
  let c1_i32_130 : BitVec 32 := 1#32
  let arg11 : BitVec 32 := Scf.iv c0_i32_128 c1_i32_130 k0_t2
  let v192 : Index := Scalar.indexCast arg11
  let c16_162 : Index := 16#32
  ![5, v192.toNat, 16]
def k0_off17 (k0_t2 : Fin k0_t2_loop.trips) : Fin 3 → Nat :=
  let c6_i32_163 : BitVec 32 := 6#32
  let v196 : Index := Scalar.indexCast c6_i32_163
  let c0_i32_128 : BitVec 32 := 0#32
  let c1_i32_130 : BitVec 32 := 1#32
  let arg11 : BitVec 32 := Scf.iv c0_i32_128 c1_i32_130 k0_t2
  let v197 : Index := Scalar.indexCast arg11
  let c16_164 : Index := 16#32
  ![6, v197.toNat, 16]
def k0_off18 (k0_t2 : Fin k0_t2_loop.trips) : Fin 3 → Nat :=
  let c7_i32_165 : BitVec 32 := 7#32
  let v201 : Index := Scalar.indexCast c7_i32_165
  let c0_i32_128 : BitVec 32 := 0#32
  let c1_i32_130 : BitVec 32 := 1#32
  let arg11 : BitVec 32 := Scf.iv c0_i32_128 c1_i32_130 k0_t2
  let v202 : Index := Scalar.indexCast arg11
  let c16_166 : Index := 16#32
  ![7, v202.toNat, 16]
def k0_off19 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v208 : Index := Scalar.indexCast arg11
  let c16_168 : Index := 16#32
  ![v208.toNat, 16]
def k0_off20 (k0_t2 : Fin k0_t2_loop.trips) : Fin 3 → Nat :=
  let c0_i32_169 : BitVec 32 := 0#32
  let v212 : Index := Scalar.indexCast c0_i32_169
  let c0_i32_128 : BitVec 32 := 0#32
  let c1_i32_130 : BitVec 32 := 1#32
  let arg11 : BitVec 32 := Scf.iv c0_i32_128 c1_i32_130 k0_t2
  let v213 : Index := Scalar.indexCast arg11
  let c32 : Index := 32#32
  ![0, v213.toNat, 32]
def k0_off21 (k0_t2 : Fin k0_t2_loop.trips) : Fin 3 → Nat :=
  let c1_i32_170 : BitVec 32 := 1#32
  let v216 : Index := Scalar.indexCast c1_i32_170
  let c0_i32_128 : BitVec 32 := 0#32
  let c1_i32_130 : BitVec 32 := 1#32
  let arg11 : BitVec 32 := Scf.iv c0_i32_128 c1_i32_130 k0_t2
  let v217 : Index := Scalar.indexCast arg11
  let c32_171 : Index := 32#32
  ![1, v217.toNat, 32]
def k0_off22 (k0_t2 : Fin k0_t2_loop.trips) : Fin 3 → Nat :=
  let c2_i32_172 : BitVec 32 := 2#32
  let v221 : Index := Scalar.indexCast c2_i32_172
  let c0_i32_128 : BitVec 32 := 0#32
  let c1_i32_130 : BitVec 32 := 1#32
  let arg11 : BitVec 32 := Scf.iv c0_i32_128 c1_i32_130 k0_t2
  let v222 : Index := Scalar.indexCast arg11
  let c32_173 : Index := 32#32
  ![2, v222.toNat, 32]
def k0_off23 (k0_t2 : Fin k0_t2_loop.trips) : Fin 3 → Nat :=
  let c3_i32_174 : BitVec 32 := 3#32
  let v226 : Index := Scalar.indexCast c3_i32_174
  let c0_i32_128 : BitVec 32 := 0#32
  let c1_i32_130 : BitVec 32 := 1#32
  let arg11 : BitVec 32 := Scf.iv c0_i32_128 c1_i32_130 k0_t2
  let v227 : Index := Scalar.indexCast arg11
  let c32_175 : Index := 32#32
  ![3, v227.toNat, 32]
def k0_off24 (k0_t2 : Fin k0_t2_loop.trips) : Fin 3 → Nat :=
  let c4_i32_176 : BitVec 32 := 4#32
  let v231 : Index := Scalar.indexCast c4_i32_176
  let c0_i32_128 : BitVec 32 := 0#32
  let c1_i32_130 : BitVec 32 := 1#32
  let arg11 : BitVec 32 := Scf.iv c0_i32_128 c1_i32_130 k0_t2
  let v232 : Index := Scalar.indexCast arg11
  let c32_177 : Index := 32#32
  ![4, v232.toNat, 32]
def k0_off25 (k0_t2 : Fin k0_t2_loop.trips) : Fin 3 → Nat :=
  let c5_i32_178 : BitVec 32 := 5#32
  let v236 : Index := Scalar.indexCast c5_i32_178
  let c0_i32_128 : BitVec 32 := 0#32
  let c1_i32_130 : BitVec 32 := 1#32
  let arg11 : BitVec 32 := Scf.iv c0_i32_128 c1_i32_130 k0_t2
  let v237 : Index := Scalar.indexCast arg11
  let c32_179 : Index := 32#32
  ![5, v237.toNat, 32]
def k0_off26 (k0_t2 : Fin k0_t2_loop.trips) : Fin 3 → Nat :=
  let c6_i32_180 : BitVec 32 := 6#32
  let v241 : Index := Scalar.indexCast c6_i32_180
  let c0_i32_128 : BitVec 32 := 0#32
  let c1_i32_130 : BitVec 32 := 1#32
  let arg11 : BitVec 32 := Scf.iv c0_i32_128 c1_i32_130 k0_t2
  let v242 : Index := Scalar.indexCast arg11
  let c32_181 : Index := 32#32
  ![6, v242.toNat, 32]
def k0_off27 (k0_t2 : Fin k0_t2_loop.trips) : Fin 3 → Nat :=
  let c7_i32_182 : BitVec 32 := 7#32
  let v246 : Index := Scalar.indexCast c7_i32_182
  let c0_i32_128 : BitVec 32 := 0#32
  let c1_i32_130 : BitVec 32 := 1#32
  let arg11 : BitVec 32 := Scf.iv c0_i32_128 c1_i32_130 k0_t2
  let v247 : Index := Scalar.indexCast arg11
  let c32_183 : Index := 32#32
  ![7, v247.toNat, 32]
def k0_off28 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v253 : Index := Scalar.indexCast arg11
  let c32_185 : Index := 32#32
  ![v253.toNat, 32]
def k0_off29 (k0_t2 : Fin k0_t2_loop.trips) : Fin 3 → Nat :=
  let c0_i32_186 : BitVec 32 := 0#32
  let v257 : Index := Scalar.indexCast c0_i32_186
  let c0_i32_128 : BitVec 32 := 0#32
  let c1_i32_130 : BitVec 32 := 1#32
  let arg11 : BitVec 32 := Scf.iv c0_i32_128 c1_i32_130 k0_t2
  let v258 : Index := Scalar.indexCast arg11
  let c48 : Index := 48#32
  ![0, v258.toNat, 48]
def k0_off30 (k0_t2 : Fin k0_t2_loop.trips) : Fin 3 → Nat :=
  let c1_i32_187 : BitVec 32 := 1#32
  let v261 : Index := Scalar.indexCast c1_i32_187
  let c0_i32_128 : BitVec 32 := 0#32
  let c1_i32_130 : BitVec 32 := 1#32
  let arg11 : BitVec 32 := Scf.iv c0_i32_128 c1_i32_130 k0_t2
  let v262 : Index := Scalar.indexCast arg11
  let c48_188 : Index := 48#32
  ![1, v262.toNat, 48]
def k0_off31 (k0_t2 : Fin k0_t2_loop.trips) : Fin 3 → Nat :=
  let c2_i32_189 : BitVec 32 := 2#32
  let v266 : Index := Scalar.indexCast c2_i32_189
  let c0_i32_128 : BitVec 32 := 0#32
  let c1_i32_130 : BitVec 32 := 1#32
  let arg11 : BitVec 32 := Scf.iv c0_i32_128 c1_i32_130 k0_t2
  let v267 : Index := Scalar.indexCast arg11
  let c48_190 : Index := 48#32
  ![2, v267.toNat, 48]
def k0_off32 (k0_t2 : Fin k0_t2_loop.trips) : Fin 3 → Nat :=
  let c3_i32_191 : BitVec 32 := 3#32
  let v271 : Index := Scalar.indexCast c3_i32_191
  let c0_i32_128 : BitVec 32 := 0#32
  let c1_i32_130 : BitVec 32 := 1#32
  let arg11 : BitVec 32 := Scf.iv c0_i32_128 c1_i32_130 k0_t2
  let v272 : Index := Scalar.indexCast arg11
  let c48_192 : Index := 48#32
  ![3, v272.toNat, 48]
def k0_off33 (k0_t2 : Fin k0_t2_loop.trips) : Fin 3 → Nat :=
  let c4_i32_193 : BitVec 32 := 4#32
  let v276 : Index := Scalar.indexCast c4_i32_193
  let c0_i32_128 : BitVec 32 := 0#32
  let c1_i32_130 : BitVec 32 := 1#32
  let arg11 : BitVec 32 := Scf.iv c0_i32_128 c1_i32_130 k0_t2
  let v277 : Index := Scalar.indexCast arg11
  let c48_194 : Index := 48#32
  ![4, v277.toNat, 48]
def k0_off34 (k0_t2 : Fin k0_t2_loop.trips) : Fin 3 → Nat :=
  let c5_i32_195 : BitVec 32 := 5#32
  let v281 : Index := Scalar.indexCast c5_i32_195
  let c0_i32_128 : BitVec 32 := 0#32
  let c1_i32_130 : BitVec 32 := 1#32
  let arg11 : BitVec 32 := Scf.iv c0_i32_128 c1_i32_130 k0_t2
  let v282 : Index := Scalar.indexCast arg11
  let c48_196 : Index := 48#32
  ![5, v282.toNat, 48]
def k0_off35 (k0_t2 : Fin k0_t2_loop.trips) : Fin 3 → Nat :=
  let c6_i32_197 : BitVec 32 := 6#32
  let v286 : Index := Scalar.indexCast c6_i32_197
  let c0_i32_128 : BitVec 32 := 0#32
  let c1_i32_130 : BitVec 32 := 1#32
  let arg11 : BitVec 32 := Scf.iv c0_i32_128 c1_i32_130 k0_t2
  let v287 : Index := Scalar.indexCast arg11
  let c48_198 : Index := 48#32
  ![6, v287.toNat, 48]
def k0_off36 (k0_t2 : Fin k0_t2_loop.trips) : Fin 3 → Nat :=
  let c7_i32_199 : BitVec 32 := 7#32
  let v291 : Index := Scalar.indexCast c7_i32_199
  let c0_i32_128 : BitVec 32 := 0#32
  let c1_i32_130 : BitVec 32 := 1#32
  let arg11 : BitVec 32 := Scf.iv c0_i32_128 c1_i32_130 k0_t2
  let v292 : Index := Scalar.indexCast arg11
  let c48_200 : Index := 48#32
  ![7, v292.toNat, 48]
def k0_off37 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v298 : Index := Scalar.indexCast arg11
  let c48_202 : Index := 48#32
  ![v298.toNat, 48]
def k0_off38 (k0_t2 : Fin k0_t2_loop.trips) : Fin 3 → Nat :=
  let c0_i32_203 : BitVec 32 := 0#32
  let v302 : Index := Scalar.indexCast c0_i32_203
  let c0_i32_128 : BitVec 32 := 0#32
  let c1_i32_130 : BitVec 32 := 1#32
  let arg11 : BitVec 32 := Scf.iv c0_i32_128 c1_i32_130 k0_t2
  let v303 : Index := Scalar.indexCast arg11
  let c64 : Index := 64#32
  ![0, v303.toNat, 64]
def k0_off39 (k0_t2 : Fin k0_t2_loop.trips) : Fin 3 → Nat :=
  let c1_i32_204 : BitVec 32 := 1#32
  let v306 : Index := Scalar.indexCast c1_i32_204
  let c0_i32_128 : BitVec 32 := 0#32
  let c1_i32_130 : BitVec 32 := 1#32
  let arg11 : BitVec 32 := Scf.iv c0_i32_128 c1_i32_130 k0_t2
  let v307 : Index := Scalar.indexCast arg11
  let c64_205 : Index := 64#32
  ![1, v307.toNat, 64]
def k0_off40 (k0_t2 : Fin k0_t2_loop.trips) : Fin 3 → Nat :=
  let c2_i32_206 : BitVec 32 := 2#32
  let v311 : Index := Scalar.indexCast c2_i32_206
  let c0_i32_128 : BitVec 32 := 0#32
  let c1_i32_130 : BitVec 32 := 1#32
  let arg11 : BitVec 32 := Scf.iv c0_i32_128 c1_i32_130 k0_t2
  let v312 : Index := Scalar.indexCast arg11
  let c64_207 : Index := 64#32
  ![2, v312.toNat, 64]
def k0_off41 (k0_t2 : Fin k0_t2_loop.trips) : Fin 3 → Nat :=
  let c3_i32_208 : BitVec 32 := 3#32
  let v316 : Index := Scalar.indexCast c3_i32_208
  let c0_i32_128 : BitVec 32 := 0#32
  let c1_i32_130 : BitVec 32 := 1#32
  let arg11 : BitVec 32 := Scf.iv c0_i32_128 c1_i32_130 k0_t2
  let v317 : Index := Scalar.indexCast arg11
  let c64_209 : Index := 64#32
  ![3, v317.toNat, 64]
def k0_off42 (k0_t2 : Fin k0_t2_loop.trips) : Fin 3 → Nat :=
  let c4_i32_210 : BitVec 32 := 4#32
  let v321 : Index := Scalar.indexCast c4_i32_210
  let c0_i32_128 : BitVec 32 := 0#32
  let c1_i32_130 : BitVec 32 := 1#32
  let arg11 : BitVec 32 := Scf.iv c0_i32_128 c1_i32_130 k0_t2
  let v322 : Index := Scalar.indexCast arg11
  let c64_211 : Index := 64#32
  ![4, v322.toNat, 64]
def k0_off43 (k0_t2 : Fin k0_t2_loop.trips) : Fin 3 → Nat :=
  let c5_i32_212 : BitVec 32 := 5#32
  let v326 : Index := Scalar.indexCast c5_i32_212
  let c0_i32_128 : BitVec 32 := 0#32
  let c1_i32_130 : BitVec 32 := 1#32
  let arg11 : BitVec 32 := Scf.iv c0_i32_128 c1_i32_130 k0_t2
  let v327 : Index := Scalar.indexCast arg11
  let c64_213 : Index := 64#32
  ![5, v327.toNat, 64]
def k0_off44 (k0_t2 : Fin k0_t2_loop.trips) : Fin 3 → Nat :=
  let c6_i32_214 : BitVec 32 := 6#32
  let v331 : Index := Scalar.indexCast c6_i32_214
  let c0_i32_128 : BitVec 32 := 0#32
  let c1_i32_130 : BitVec 32 := 1#32
  let arg11 : BitVec 32 := Scf.iv c0_i32_128 c1_i32_130 k0_t2
  let v332 : Index := Scalar.indexCast arg11
  let c64_215 : Index := 64#32
  ![6, v332.toNat, 64]
def k0_off45 (k0_t2 : Fin k0_t2_loop.trips) : Fin 3 → Nat :=
  let c7_i32_216 : BitVec 32 := 7#32
  let v336 : Index := Scalar.indexCast c7_i32_216
  let c0_i32_128 : BitVec 32 := 0#32
  let c1_i32_130 : BitVec 32 := 1#32
  let arg11 : BitVec 32 := Scf.iv c0_i32_128 c1_i32_130 k0_t2
  let v337 : Index := Scalar.indexCast arg11
  let c64_217 : Index := 64#32
  ![7, v337.toNat, 64]
def k0_off46 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v343 : Index := Scalar.indexCast arg11
  let c64_219 : Index := 64#32
  ![v343.toNat, 64]
def k0_off47 (k0_t2 : Fin k0_t2_loop.trips) : Fin 3 → Nat :=
  let c0_i32_220 : BitVec 32 := 0#32
  let v347 : Index := Scalar.indexCast c0_i32_220
  let c0_i32_128 : BitVec 32 := 0#32
  let c1_i32_130 : BitVec 32 := 1#32
  let arg11 : BitVec 32 := Scf.iv c0_i32_128 c1_i32_130 k0_t2
  let v348 : Index := Scalar.indexCast arg11
  let c80 : Index := 80#32
  ![0, v348.toNat, 80]
def k0_off48 (k0_t2 : Fin k0_t2_loop.trips) : Fin 3 → Nat :=
  let c1_i32_221 : BitVec 32 := 1#32
  let v351 : Index := Scalar.indexCast c1_i32_221
  let c0_i32_128 : BitVec 32 := 0#32
  let c1_i32_130 : BitVec 32 := 1#32
  let arg11 : BitVec 32 := Scf.iv c0_i32_128 c1_i32_130 k0_t2
  let v352 : Index := Scalar.indexCast arg11
  let c80_222 : Index := 80#32
  ![1, v352.toNat, 80]
def k0_off49 (k0_t2 : Fin k0_t2_loop.trips) : Fin 3 → Nat :=
  let c2_i32_223 : BitVec 32 := 2#32
  let v356 : Index := Scalar.indexCast c2_i32_223
  let c0_i32_128 : BitVec 32 := 0#32
  let c1_i32_130 : BitVec 32 := 1#32
  let arg11 : BitVec 32 := Scf.iv c0_i32_128 c1_i32_130 k0_t2
  let v357 : Index := Scalar.indexCast arg11
  let c80_224 : Index := 80#32
  ![2, v357.toNat, 80]
def k0_off50 (k0_t2 : Fin k0_t2_loop.trips) : Fin 3 → Nat :=
  let c3_i32_225 : BitVec 32 := 3#32
  let v361 : Index := Scalar.indexCast c3_i32_225
  let c0_i32_128 : BitVec 32 := 0#32
  let c1_i32_130 : BitVec 32 := 1#32
  let arg11 : BitVec 32 := Scf.iv c0_i32_128 c1_i32_130 k0_t2
  let v362 : Index := Scalar.indexCast arg11
  let c80_226 : Index := 80#32
  ![3, v362.toNat, 80]
def k0_off51 (k0_t2 : Fin k0_t2_loop.trips) : Fin 3 → Nat :=
  let c4_i32_227 : BitVec 32 := 4#32
  let v366 : Index := Scalar.indexCast c4_i32_227
  let c0_i32_128 : BitVec 32 := 0#32
  let c1_i32_130 : BitVec 32 := 1#32
  let arg11 : BitVec 32 := Scf.iv c0_i32_128 c1_i32_130 k0_t2
  let v367 : Index := Scalar.indexCast arg11
  let c80_228 : Index := 80#32
  ![4, v367.toNat, 80]
def k0_off52 (k0_t2 : Fin k0_t2_loop.trips) : Fin 3 → Nat :=
  let c5_i32_229 : BitVec 32 := 5#32
  let v371 : Index := Scalar.indexCast c5_i32_229
  let c0_i32_128 : BitVec 32 := 0#32
  let c1_i32_130 : BitVec 32 := 1#32
  let arg11 : BitVec 32 := Scf.iv c0_i32_128 c1_i32_130 k0_t2
  let v372 : Index := Scalar.indexCast arg11
  let c80_230 : Index := 80#32
  ![5, v372.toNat, 80]
def k0_off53 (k0_t2 : Fin k0_t2_loop.trips) : Fin 3 → Nat :=
  let c6_i32_231 : BitVec 32 := 6#32
  let v376 : Index := Scalar.indexCast c6_i32_231
  let c0_i32_128 : BitVec 32 := 0#32
  let c1_i32_130 : BitVec 32 := 1#32
  let arg11 : BitVec 32 := Scf.iv c0_i32_128 c1_i32_130 k0_t2
  let v377 : Index := Scalar.indexCast arg11
  let c80_232 : Index := 80#32
  ![6, v377.toNat, 80]
def k0_off54 (k0_t2 : Fin k0_t2_loop.trips) : Fin 3 → Nat :=
  let c7_i32_233 : BitVec 32 := 7#32
  let v381 : Index := Scalar.indexCast c7_i32_233
  let c0_i32_128 : BitVec 32 := 0#32
  let c1_i32_130 : BitVec 32 := 1#32
  let arg11 : BitVec 32 := Scf.iv c0_i32_128 c1_i32_130 k0_t2
  let v382 : Index := Scalar.indexCast arg11
  let c80_234 : Index := 80#32
  ![7, v382.toNat, 80]
def k0_off55 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v388 : Index := Scalar.indexCast arg11
  let c80_236 : Index := 80#32
  ![v388.toNat, 80]
def k0_off56 (k0_t2 : Fin k0_t2_loop.trips) : Fin 3 → Nat :=
  let c0_i32_237 : BitVec 32 := 0#32
  let v392 : Index := Scalar.indexCast c0_i32_237
  let c0_i32_128 : BitVec 32 := 0#32
  let c1_i32_130 : BitVec 32 := 1#32
  let arg11 : BitVec 32 := Scf.iv c0_i32_128 c1_i32_130 k0_t2
  let v393 : Index := Scalar.indexCast arg11
  let c96 : Index := 96#32
  ![0, v393.toNat, 96]
def k0_off57 (k0_t2 : Fin k0_t2_loop.trips) : Fin 3 → Nat :=
  let c1_i32_238 : BitVec 32 := 1#32
  let v396 : Index := Scalar.indexCast c1_i32_238
  let c0_i32_128 : BitVec 32 := 0#32
  let c1_i32_130 : BitVec 32 := 1#32
  let arg11 : BitVec 32 := Scf.iv c0_i32_128 c1_i32_130 k0_t2
  let v397 : Index := Scalar.indexCast arg11
  let c96_239 : Index := 96#32
  ![1, v397.toNat, 96]
def k0_off58 (k0_t2 : Fin k0_t2_loop.trips) : Fin 3 → Nat :=
  let c2_i32_240 : BitVec 32 := 2#32
  let v401 : Index := Scalar.indexCast c2_i32_240
  let c0_i32_128 : BitVec 32 := 0#32
  let c1_i32_130 : BitVec 32 := 1#32
  let arg11 : BitVec 32 := Scf.iv c0_i32_128 c1_i32_130 k0_t2
  let v402 : Index := Scalar.indexCast arg11
  let c96_241 : Index := 96#32
  ![2, v402.toNat, 96]
def k0_off59 (k0_t2 : Fin k0_t2_loop.trips) : Fin 3 → Nat :=
  let c3_i32_242 : BitVec 32 := 3#32
  let v406 : Index := Scalar.indexCast c3_i32_242
  let c0_i32_128 : BitVec 32 := 0#32
  let c1_i32_130 : BitVec 32 := 1#32
  let arg11 : BitVec 32 := Scf.iv c0_i32_128 c1_i32_130 k0_t2
  let v407 : Index := Scalar.indexCast arg11
  let c96_243 : Index := 96#32
  ![3, v407.toNat, 96]
def k0_off60 (k0_t2 : Fin k0_t2_loop.trips) : Fin 3 → Nat :=
  let c4_i32_244 : BitVec 32 := 4#32
  let v411 : Index := Scalar.indexCast c4_i32_244
  let c0_i32_128 : BitVec 32 := 0#32
  let c1_i32_130 : BitVec 32 := 1#32
  let arg11 : BitVec 32 := Scf.iv c0_i32_128 c1_i32_130 k0_t2
  let v412 : Index := Scalar.indexCast arg11
  let c96_245 : Index := 96#32
  ![4, v412.toNat, 96]
def k0_off61 (k0_t2 : Fin k0_t2_loop.trips) : Fin 3 → Nat :=
  let c5_i32_246 : BitVec 32 := 5#32
  let v416 : Index := Scalar.indexCast c5_i32_246
  let c0_i32_128 : BitVec 32 := 0#32
  let c1_i32_130 : BitVec 32 := 1#32
  let arg11 : BitVec 32 := Scf.iv c0_i32_128 c1_i32_130 k0_t2
  let v417 : Index := Scalar.indexCast arg11
  let c96_247 : Index := 96#32
  ![5, v417.toNat, 96]
def k0_off62 (k0_t2 : Fin k0_t2_loop.trips) : Fin 3 → Nat :=
  let c6_i32_248 : BitVec 32 := 6#32
  let v421 : Index := Scalar.indexCast c6_i32_248
  let c0_i32_128 : BitVec 32 := 0#32
  let c1_i32_130 : BitVec 32 := 1#32
  let arg11 : BitVec 32 := Scf.iv c0_i32_128 c1_i32_130 k0_t2
  let v422 : Index := Scalar.indexCast arg11
  let c96_249 : Index := 96#32
  ![6, v422.toNat, 96]
def k0_off63 (k0_t2 : Fin k0_t2_loop.trips) : Fin 3 → Nat :=
  let c7_i32_250 : BitVec 32 := 7#32
  let v426 : Index := Scalar.indexCast c7_i32_250
  let c0_i32_128 : BitVec 32 := 0#32
  let c1_i32_130 : BitVec 32 := 1#32
  let arg11 : BitVec 32 := Scf.iv c0_i32_128 c1_i32_130 k0_t2
  let v427 : Index := Scalar.indexCast arg11
  let c96_251 : Index := 96#32
  ![7, v427.toNat, 96]
def k0_off64 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v433 : Index := Scalar.indexCast arg11
  let c96_253 : Index := 96#32
  ![v433.toNat, 96]
def k0_off65 (k0_t2 : Fin k0_t2_loop.trips) : Fin 3 → Nat :=
  let c0_i32_254 : BitVec 32 := 0#32
  let v437 : Index := Scalar.indexCast c0_i32_254
  let c0_i32_128 : BitVec 32 := 0#32
  let c1_i32_130 : BitVec 32 := 1#32
  let arg11 : BitVec 32 := Scf.iv c0_i32_128 c1_i32_130 k0_t2
  let v438 : Index := Scalar.indexCast arg11
  let c112 : Index := 112#32
  ![0, v438.toNat, 112]
def k0_off66 (k0_t2 : Fin k0_t2_loop.trips) : Fin 3 → Nat :=
  let c1_i32_255 : BitVec 32 := 1#32
  let v441 : Index := Scalar.indexCast c1_i32_255
  let c0_i32_128 : BitVec 32 := 0#32
  let c1_i32_130 : BitVec 32 := 1#32
  let arg11 : BitVec 32 := Scf.iv c0_i32_128 c1_i32_130 k0_t2
  let v442 : Index := Scalar.indexCast arg11
  let c112_256 : Index := 112#32
  ![1, v442.toNat, 112]
def k0_off67 (k0_t2 : Fin k0_t2_loop.trips) : Fin 3 → Nat :=
  let c2_i32_257 : BitVec 32 := 2#32
  let v446 : Index := Scalar.indexCast c2_i32_257
  let c0_i32_128 : BitVec 32 := 0#32
  let c1_i32_130 : BitVec 32 := 1#32
  let arg11 : BitVec 32 := Scf.iv c0_i32_128 c1_i32_130 k0_t2
  let v447 : Index := Scalar.indexCast arg11
  let c112_258 : Index := 112#32
  ![2, v447.toNat, 112]
def k0_off68 (k0_t2 : Fin k0_t2_loop.trips) : Fin 3 → Nat :=
  let c3_i32_259 : BitVec 32 := 3#32
  let v451 : Index := Scalar.indexCast c3_i32_259
  let c0_i32_128 : BitVec 32 := 0#32
  let c1_i32_130 : BitVec 32 := 1#32
  let arg11 : BitVec 32 := Scf.iv c0_i32_128 c1_i32_130 k0_t2
  let v452 : Index := Scalar.indexCast arg11
  let c112_260 : Index := 112#32
  ![3, v452.toNat, 112]
def k0_off69 (k0_t2 : Fin k0_t2_loop.trips) : Fin 3 → Nat :=
  let c4_i32_261 : BitVec 32 := 4#32
  let v456 : Index := Scalar.indexCast c4_i32_261
  let c0_i32_128 : BitVec 32 := 0#32
  let c1_i32_130 : BitVec 32 := 1#32
  let arg11 : BitVec 32 := Scf.iv c0_i32_128 c1_i32_130 k0_t2
  let v457 : Index := Scalar.indexCast arg11
  let c112_262 : Index := 112#32
  ![4, v457.toNat, 112]
def k0_off70 (k0_t2 : Fin k0_t2_loop.trips) : Fin 3 → Nat :=
  let c5_i32_263 : BitVec 32 := 5#32
  let v461 : Index := Scalar.indexCast c5_i32_263
  let c0_i32_128 : BitVec 32 := 0#32
  let c1_i32_130 : BitVec 32 := 1#32
  let arg11 : BitVec 32 := Scf.iv c0_i32_128 c1_i32_130 k0_t2
  let v462 : Index := Scalar.indexCast arg11
  let c112_264 : Index := 112#32
  ![5, v462.toNat, 112]
def k0_off71 (k0_t2 : Fin k0_t2_loop.trips) : Fin 3 → Nat :=
  let c6_i32_265 : BitVec 32 := 6#32
  let v466 : Index := Scalar.indexCast c6_i32_265
  let c0_i32_128 : BitVec 32 := 0#32
  let c1_i32_130 : BitVec 32 := 1#32
  let arg11 : BitVec 32 := Scf.iv c0_i32_128 c1_i32_130 k0_t2
  let v467 : Index := Scalar.indexCast arg11
  let c112_266 : Index := 112#32
  ![6, v467.toNat, 112]
def k0_off72 (k0_t2 : Fin k0_t2_loop.trips) : Fin 3 → Nat :=
  let c7_i32_267 : BitVec 32 := 7#32
  let v471 : Index := Scalar.indexCast c7_i32_267
  let c0_i32_128 : BitVec 32 := 0#32
  let c1_i32_130 : BitVec 32 := 1#32
  let arg11 : BitVec 32 := Scf.iv c0_i32_128 c1_i32_130 k0_t2
  let v472 : Index := Scalar.indexCast arg11
  let c112_268 : Index := 112#32
  ![7, v472.toNat, 112]
def k0_off73 (k0_t2 : Fin k0_t2_loop.trips) : Fin 2 → Nat :=
  let c0_i32_128 : BitVec 32 := 0#32
  let c1_i32_130 : BitVec 32 := 1#32
  let arg11 : BitVec 32 := Scf.iv c0_i32_128 c1_i32_130 k0_t2
  let v478 : Index := Scalar.indexCast arg11
  let c112_270 : Index := 112#32
  ![v478.toNat, 112]
def k0_off74 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let c1_i32_8 : BitVec 32 := 1#32
  let arg10 : BitVec 32 := Scf.iv c0_i32_6 c1_i32_8 k0_t1
  let c32_i32_10 : BitVec 32 := 32#32
  let v26 : BitVec 32 := Scalar.muli arg10 c32_i32_10
  let v27 : BitVec 32 := Scalar.addi v1 v26
  let c80_i32 : BitVec 32 := 80#32
  let v28 : BitVec 32 := Scalar.muli v27 c80_i32
  let c0_i32_132 : BitVec 32 := 0#32
  ![v28.toNat, 0]
@[reducible] def k0_t3_loop (i : grid0.Coords) : Scf.Loop 32 :=
  let c0_i32_6 : BitVec 32 := 0#32
  let c624_i32 : BitVec 32 := 624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let v22 : BitVec 32 := Scalar.addi c0_i32_6 v21
  let c1_i32_9 : BitVec 32 := 1#32
  ⟨v25, v22, c1_i32_9⟩
def k0_off75 (i : grid0.Coords) (k0_t3 : Fin (k0_t3_loop i).trips) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let c624_i32 : BitVec 32 := 624#32
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_9 : BitVec 32 := 1#32
  let arg10 : BitVec 32 := Scf.iv v25 c1_i32_9 k0_t3
  let c32_i32_10 : BitVec 32 := 32#32
  let v26 : BitVec 32 := Scalar.muli arg10 c32_i32_10
  let v27 : BitVec 32 := Scalar.addi v1 v26
  let c80_i32 : BitVec 32 := 80#32
  let v28 : BitVec 32 := Scalar.muli v27 c80_i32
  let v29 : BitVec 32 := Scalar.addi c0_i32_11 v28
  ![v29.toNat]
@[reducible] def k0_t4_loop : Scf.Loop 32 :=
  let c0_i32_128 : BitVec 32 := 0#32
  let c80_i32_129 : BitVec 32 := 80#32
  let v117 : BitVec 32 := Scalar.addi c0_i32_128 c80_i32_129
  let c1_i32_130 : BitVec 32 := 1#32
  ⟨c0_i32_128, v117, c1_i32_130⟩
def k0_off76 (k0_t4 : Fin k0_t4_loop.trips) : Fin 3 → Nat :=
  let c0_i32_136 : BitVec 32 := 0#32
  let v122 : Index := Scalar.indexCast c0_i32_136
  let c0_i32_128 : BitVec 32 := 0#32
  let c1_i32_130 : BitVec 32 := 1#32
  let arg11 : BitVec 32 := Scf.iv c0_i32_128 c1_i32_130 k0_t4
  let v123 : Index := Scalar.indexCast arg11
  let c0 : Index := 0#32
  ![0, v123.toNat, 0]
def k0_off77 (k0_t4 : Fin k0_t4_loop.trips) : Fin 3 → Nat :=
  let c1_i32_137 : BitVec 32 := 1#32
  let v126 : Index := Scalar.indexCast c1_i32_137
  let c0_i32_128 : BitVec 32 := 0#32
  let c1_i32_130 : BitVec 32 := 1#32
  let arg11 : BitVec 32 := Scf.iv c0_i32_128 c1_i32_130 k0_t4
  let v127 : Index := Scalar.indexCast arg11
  let c0_138 : Index := 0#32
  ![1, v127.toNat, 0]
def k0_off78 (k0_t4 : Fin k0_t4_loop.trips) : Fin 3 → Nat :=
  let c2_i32_139 : BitVec 32 := 2#32
  let v131 : Index := Scalar.indexCast c2_i32_139
  let c0_i32_128 : BitVec 32 := 0#32
  let c1_i32_130 : BitVec 32 := 1#32
  let arg11 : BitVec 32 := Scf.iv c0_i32_128 c1_i32_130 k0_t4
  let v132 : Index := Scalar.indexCast arg11
  let c0_140 : Index := 0#32
  ![2, v132.toNat, 0]
def k0_off79 (k0_t4 : Fin k0_t4_loop.trips) : Fin 3 → Nat :=
  let c3_i32_141 : BitVec 32 := 3#32
  let v136 : Index := Scalar.indexCast c3_i32_141
  let c0_i32_128 : BitVec 32 := 0#32
  let c1_i32_130 : BitVec 32 := 1#32
  let arg11 : BitVec 32 := Scf.iv c0_i32_128 c1_i32_130 k0_t4
  let v137 : Index := Scalar.indexCast arg11
  let c0_142 : Index := 0#32
  ![3, v137.toNat, 0]
def k0_off80 (k0_t4 : Fin k0_t4_loop.trips) : Fin 3 → Nat :=
  let c4_i32_143 : BitVec 32 := 4#32
  let v141 : Index := Scalar.indexCast c4_i32_143
  let c0_i32_128 : BitVec 32 := 0#32
  let c1_i32_130 : BitVec 32 := 1#32
  let arg11 : BitVec 32 := Scf.iv c0_i32_128 c1_i32_130 k0_t4
  let v142 : Index := Scalar.indexCast arg11
  let c0_144 : Index := 0#32
  ![4, v142.toNat, 0]
def k0_off81 (k0_t4 : Fin k0_t4_loop.trips) : Fin 3 → Nat :=
  let c5_i32_145 : BitVec 32 := 5#32
  let v146 : Index := Scalar.indexCast c5_i32_145
  let c0_i32_128 : BitVec 32 := 0#32
  let c1_i32_130 : BitVec 32 := 1#32
  let arg11 : BitVec 32 := Scf.iv c0_i32_128 c1_i32_130 k0_t4
  let v147 : Index := Scalar.indexCast arg11
  let c0_146 : Index := 0#32
  ![5, v147.toNat, 0]
def k0_off82 (k0_t4 : Fin k0_t4_loop.trips) : Fin 3 → Nat :=
  let c6_i32_147 : BitVec 32 := 6#32
  let v151 : Index := Scalar.indexCast c6_i32_147
  let c0_i32_128 : BitVec 32 := 0#32
  let c1_i32_130 : BitVec 32 := 1#32
  let arg11 : BitVec 32 := Scf.iv c0_i32_128 c1_i32_130 k0_t4
  let v152 : Index := Scalar.indexCast arg11
  let c0_148 : Index := 0#32
  ![6, v152.toNat, 0]
def k0_off83 (k0_t4 : Fin k0_t4_loop.trips) : Fin 3 → Nat :=
  let c7_i32_149 : BitVec 32 := 7#32
  let v156 : Index := Scalar.indexCast c7_i32_149
  let c0_i32_128 : BitVec 32 := 0#32
  let c1_i32_130 : BitVec 32 := 1#32
  let arg11 : BitVec 32 := Scf.iv c0_i32_128 c1_i32_130 k0_t4
  let v157 : Index := Scalar.indexCast arg11
  let c0_150 : Index := 0#32
  ![7, v157.toNat, 0]
def k0_off84 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v163 : Index := Scalar.indexCast arg11
  let c0_151 : Index := 0#32
  ![v163.toNat, 0]
def k0_off85 (k0_t4 : Fin k0_t4_loop.trips) : Fin 3 → Nat :=
  let c0_i32_152 : BitVec 32 := 0#32
  let v167 : Index := Scalar.indexCast c0_i32_152
  let c0_i32_128 : BitVec 32 := 0#32
  let c1_i32_130 : BitVec 32 := 1#32
  let arg11 : BitVec 32 := Scf.iv c0_i32_128 c1_i32_130 k0_t4
  let v168 : Index := Scalar.indexCast arg11
  let c16 : Index := 16#32
  ![0, v168.toNat, 16]
def k0_off86 (k0_t4 : Fin k0_t4_loop.trips) : Fin 3 → Nat :=
  let c1_i32_153 : BitVec 32 := 1#32
  let v171 : Index := Scalar.indexCast c1_i32_153
  let c0_i32_128 : BitVec 32 := 0#32
  let c1_i32_130 : BitVec 32 := 1#32
  let arg11 : BitVec 32 := Scf.iv c0_i32_128 c1_i32_130 k0_t4
  let v172 : Index := Scalar.indexCast arg11
  let c16_154 : Index := 16#32
  ![1, v172.toNat, 16]
def k0_off87 (k0_t4 : Fin k0_t4_loop.trips) : Fin 3 → Nat :=
  let c2_i32_155 : BitVec 32 := 2#32
  let v176 : Index := Scalar.indexCast c2_i32_155
  let c0_i32_128 : BitVec 32 := 0#32
  let c1_i32_130 : BitVec 32 := 1#32
  let arg11 : BitVec 32 := Scf.iv c0_i32_128 c1_i32_130 k0_t4
  let v177 : Index := Scalar.indexCast arg11
  let c16_156 : Index := 16#32
  ![2, v177.toNat, 16]
def k0_off88 (k0_t4 : Fin k0_t4_loop.trips) : Fin 3 → Nat :=
  let c3_i32_157 : BitVec 32 := 3#32
  let v181 : Index := Scalar.indexCast c3_i32_157
  let c0_i32_128 : BitVec 32 := 0#32
  let c1_i32_130 : BitVec 32 := 1#32
  let arg11 : BitVec 32 := Scf.iv c0_i32_128 c1_i32_130 k0_t4
  let v182 : Index := Scalar.indexCast arg11
  let c16_158 : Index := 16#32
  ![3, v182.toNat, 16]
def k0_off89 (k0_t4 : Fin k0_t4_loop.trips) : Fin 3 → Nat :=
  let c4_i32_159 : BitVec 32 := 4#32
  let v186 : Index := Scalar.indexCast c4_i32_159
  let c0_i32_128 : BitVec 32 := 0#32
  let c1_i32_130 : BitVec 32 := 1#32
  let arg11 : BitVec 32 := Scf.iv c0_i32_128 c1_i32_130 k0_t4
  let v187 : Index := Scalar.indexCast arg11
  let c16_160 : Index := 16#32
  ![4, v187.toNat, 16]
def k0_off90 (k0_t4 : Fin k0_t4_loop.trips) : Fin 3 → Nat :=
  let c5_i32_161 : BitVec 32 := 5#32
  let v191 : Index := Scalar.indexCast c5_i32_161
  let c0_i32_128 : BitVec 32 := 0#32
  let c1_i32_130 : BitVec 32 := 1#32
  let arg11 : BitVec 32 := Scf.iv c0_i32_128 c1_i32_130 k0_t4
  let v192 : Index := Scalar.indexCast arg11
  let c16_162 : Index := 16#32
  ![5, v192.toNat, 16]
def k0_off91 (k0_t4 : Fin k0_t4_loop.trips) : Fin 3 → Nat :=
  let c6_i32_163 : BitVec 32 := 6#32
  let v196 : Index := Scalar.indexCast c6_i32_163
  let c0_i32_128 : BitVec 32 := 0#32
  let c1_i32_130 : BitVec 32 := 1#32
  let arg11 : BitVec 32 := Scf.iv c0_i32_128 c1_i32_130 k0_t4
  let v197 : Index := Scalar.indexCast arg11
  let c16_164 : Index := 16#32
  ![6, v197.toNat, 16]
def k0_off92 (k0_t4 : Fin k0_t4_loop.trips) : Fin 3 → Nat :=
  let c7_i32_165 : BitVec 32 := 7#32
  let v201 : Index := Scalar.indexCast c7_i32_165
  let c0_i32_128 : BitVec 32 := 0#32
  let c1_i32_130 : BitVec 32 := 1#32
  let arg11 : BitVec 32 := Scf.iv c0_i32_128 c1_i32_130 k0_t4
  let v202 : Index := Scalar.indexCast arg11
  let c16_166 : Index := 16#32
  ![7, v202.toNat, 16]
def k0_off93 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v208 : Index := Scalar.indexCast arg11
  let c16_168 : Index := 16#32
  ![v208.toNat, 16]
def k0_off94 (k0_t4 : Fin k0_t4_loop.trips) : Fin 3 → Nat :=
  let c0_i32_169 : BitVec 32 := 0#32
  let v212 : Index := Scalar.indexCast c0_i32_169
  let c0_i32_128 : BitVec 32 := 0#32
  let c1_i32_130 : BitVec 32 := 1#32
  let arg11 : BitVec 32 := Scf.iv c0_i32_128 c1_i32_130 k0_t4
  let v213 : Index := Scalar.indexCast arg11
  let c32 : Index := 32#32
  ![0, v213.toNat, 32]
def k0_off95 (k0_t4 : Fin k0_t4_loop.trips) : Fin 3 → Nat :=
  let c1_i32_170 : BitVec 32 := 1#32
  let v216 : Index := Scalar.indexCast c1_i32_170
  let c0_i32_128 : BitVec 32 := 0#32
  let c1_i32_130 : BitVec 32 := 1#32
  let arg11 : BitVec 32 := Scf.iv c0_i32_128 c1_i32_130 k0_t4
  let v217 : Index := Scalar.indexCast arg11
  let c32_171 : Index := 32#32
  ![1, v217.toNat, 32]
def k0_off96 (k0_t4 : Fin k0_t4_loop.trips) : Fin 3 → Nat :=
  let c2_i32_172 : BitVec 32 := 2#32
  let v221 : Index := Scalar.indexCast c2_i32_172
  let c0_i32_128 : BitVec 32 := 0#32
  let c1_i32_130 : BitVec 32 := 1#32
  let arg11 : BitVec 32 := Scf.iv c0_i32_128 c1_i32_130 k0_t4
  let v222 : Index := Scalar.indexCast arg11
  let c32_173 : Index := 32#32
  ![2, v222.toNat, 32]
def k0_off97 (k0_t4 : Fin k0_t4_loop.trips) : Fin 3 → Nat :=
  let c3_i32_174 : BitVec 32 := 3#32
  let v226 : Index := Scalar.indexCast c3_i32_174
  let c0_i32_128 : BitVec 32 := 0#32
  let c1_i32_130 : BitVec 32 := 1#32
  let arg11 : BitVec 32 := Scf.iv c0_i32_128 c1_i32_130 k0_t4
  let v227 : Index := Scalar.indexCast arg11
  let c32_175 : Index := 32#32
  ![3, v227.toNat, 32]
def k0_off98 (k0_t4 : Fin k0_t4_loop.trips) : Fin 3 → Nat :=
  let c4_i32_176 : BitVec 32 := 4#32
  let v231 : Index := Scalar.indexCast c4_i32_176
  let c0_i32_128 : BitVec 32 := 0#32
  let c1_i32_130 : BitVec 32 := 1#32
  let arg11 : BitVec 32 := Scf.iv c0_i32_128 c1_i32_130 k0_t4
  let v232 : Index := Scalar.indexCast arg11
  let c32_177 : Index := 32#32
  ![4, v232.toNat, 32]
def k0_off99 (k0_t4 : Fin k0_t4_loop.trips) : Fin 3 → Nat :=
  let c5_i32_178 : BitVec 32 := 5#32
  let v236 : Index := Scalar.indexCast c5_i32_178
  let c0_i32_128 : BitVec 32 := 0#32
  let c1_i32_130 : BitVec 32 := 1#32
  let arg11 : BitVec 32 := Scf.iv c0_i32_128 c1_i32_130 k0_t4
  let v237 : Index := Scalar.indexCast arg11
  let c32_179 : Index := 32#32
  ![5, v237.toNat, 32]
def k0_off100 (k0_t4 : Fin k0_t4_loop.trips) : Fin 3 → Nat :=
  let c6_i32_180 : BitVec 32 := 6#32
  let v241 : Index := Scalar.indexCast c6_i32_180
  let c0_i32_128 : BitVec 32 := 0#32
  let c1_i32_130 : BitVec 32 := 1#32
  let arg11 : BitVec 32 := Scf.iv c0_i32_128 c1_i32_130 k0_t4
  let v242 : Index := Scalar.indexCast arg11
  let c32_181 : Index := 32#32
  ![6, v242.toNat, 32]
def k0_off101 (k0_t4 : Fin k0_t4_loop.trips) : Fin 3 → Nat :=
  let c7_i32_182 : BitVec 32 := 7#32
  let v246 : Index := Scalar.indexCast c7_i32_182
  let c0_i32_128 : BitVec 32 := 0#32
  let c1_i32_130 : BitVec 32 := 1#32
  let arg11 : BitVec 32 := Scf.iv c0_i32_128 c1_i32_130 k0_t4
  let v247 : Index := Scalar.indexCast arg11
  let c32_183 : Index := 32#32
  ![7, v247.toNat, 32]
def k0_off102 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v253 : Index := Scalar.indexCast arg11
  let c32_185 : Index := 32#32
  ![v253.toNat, 32]
def k0_off103 (k0_t4 : Fin k0_t4_loop.trips) : Fin 3 → Nat :=
  let c0_i32_186 : BitVec 32 := 0#32
  let v257 : Index := Scalar.indexCast c0_i32_186
  let c0_i32_128 : BitVec 32 := 0#32
  let c1_i32_130 : BitVec 32 := 1#32
  let arg11 : BitVec 32 := Scf.iv c0_i32_128 c1_i32_130 k0_t4
  let v258 : Index := Scalar.indexCast arg11
  let c48 : Index := 48#32
  ![0, v258.toNat, 48]
def k0_off104 (k0_t4 : Fin k0_t4_loop.trips) : Fin 3 → Nat :=
  let c1_i32_187 : BitVec 32 := 1#32
  let v261 : Index := Scalar.indexCast c1_i32_187
  let c0_i32_128 : BitVec 32 := 0#32
  let c1_i32_130 : BitVec 32 := 1#32
  let arg11 : BitVec 32 := Scf.iv c0_i32_128 c1_i32_130 k0_t4
  let v262 : Index := Scalar.indexCast arg11
  let c48_188 : Index := 48#32
  ![1, v262.toNat, 48]
def k0_off105 (k0_t4 : Fin k0_t4_loop.trips) : Fin 3 → Nat :=
  let c2_i32_189 : BitVec 32 := 2#32
  let v266 : Index := Scalar.indexCast c2_i32_189
  let c0_i32_128 : BitVec 32 := 0#32
  let c1_i32_130 : BitVec 32 := 1#32
  let arg11 : BitVec 32 := Scf.iv c0_i32_128 c1_i32_130 k0_t4
  let v267 : Index := Scalar.indexCast arg11
  let c48_190 : Index := 48#32
  ![2, v267.toNat, 48]
def k0_off106 (k0_t4 : Fin k0_t4_loop.trips) : Fin 3 → Nat :=
  let c3_i32_191 : BitVec 32 := 3#32
  let v271 : Index := Scalar.indexCast c3_i32_191
  let c0_i32_128 : BitVec 32 := 0#32
  let c1_i32_130 : BitVec 32 := 1#32
  let arg11 : BitVec 32 := Scf.iv c0_i32_128 c1_i32_130 k0_t4
  let v272 : Index := Scalar.indexCast arg11
  let c48_192 : Index := 48#32
  ![3, v272.toNat, 48]
def k0_off107 (k0_t4 : Fin k0_t4_loop.trips) : Fin 3 → Nat :=
  let c4_i32_193 : BitVec 32 := 4#32
  let v276 : Index := Scalar.indexCast c4_i32_193
  let c0_i32_128 : BitVec 32 := 0#32
  let c1_i32_130 : BitVec 32 := 1#32
  let arg11 : BitVec 32 := Scf.iv c0_i32_128 c1_i32_130 k0_t4
  let v277 : Index := Scalar.indexCast arg11
  let c48_194 : Index := 48#32
  ![4, v277.toNat, 48]
def k0_off108 (k0_t4 : Fin k0_t4_loop.trips) : Fin 3 → Nat :=
  let c5_i32_195 : BitVec 32 := 5#32
  let v281 : Index := Scalar.indexCast c5_i32_195
  let c0_i32_128 : BitVec 32 := 0#32
  let c1_i32_130 : BitVec 32 := 1#32
  let arg11 : BitVec 32 := Scf.iv c0_i32_128 c1_i32_130 k0_t4
  let v282 : Index := Scalar.indexCast arg11
  let c48_196 : Index := 48#32
  ![5, v282.toNat, 48]
def k0_off109 (k0_t4 : Fin k0_t4_loop.trips) : Fin 3 → Nat :=
  let c6_i32_197 : BitVec 32 := 6#32
  let v286 : Index := Scalar.indexCast c6_i32_197
  let c0_i32_128 : BitVec 32 := 0#32
  let c1_i32_130 : BitVec 32 := 1#32
  let arg11 : BitVec 32 := Scf.iv c0_i32_128 c1_i32_130 k0_t4
  let v287 : Index := Scalar.indexCast arg11
  let c48_198 : Index := 48#32
  ![6, v287.toNat, 48]
def k0_off110 (k0_t4 : Fin k0_t4_loop.trips) : Fin 3 → Nat :=
  let c7_i32_199 : BitVec 32 := 7#32
  let v291 : Index := Scalar.indexCast c7_i32_199
  let c0_i32_128 : BitVec 32 := 0#32
  let c1_i32_130 : BitVec 32 := 1#32
  let arg11 : BitVec 32 := Scf.iv c0_i32_128 c1_i32_130 k0_t4
  let v292 : Index := Scalar.indexCast arg11
  let c48_200 : Index := 48#32
  ![7, v292.toNat, 48]
def k0_off111 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v298 : Index := Scalar.indexCast arg11
  let c48_202 : Index := 48#32
  ![v298.toNat, 48]
def k0_off112 (k0_t4 : Fin k0_t4_loop.trips) : Fin 3 → Nat :=
  let c0_i32_203 : BitVec 32 := 0#32
  let v302 : Index := Scalar.indexCast c0_i32_203
  let c0_i32_128 : BitVec 32 := 0#32
  let c1_i32_130 : BitVec 32 := 1#32
  let arg11 : BitVec 32 := Scf.iv c0_i32_128 c1_i32_130 k0_t4
  let v303 : Index := Scalar.indexCast arg11
  let c64 : Index := 64#32
  ![0, v303.toNat, 64]
def k0_off113 (k0_t4 : Fin k0_t4_loop.trips) : Fin 3 → Nat :=
  let c1_i32_204 : BitVec 32 := 1#32
  let v306 : Index := Scalar.indexCast c1_i32_204
  let c0_i32_128 : BitVec 32 := 0#32
  let c1_i32_130 : BitVec 32 := 1#32
  let arg11 : BitVec 32 := Scf.iv c0_i32_128 c1_i32_130 k0_t4
  let v307 : Index := Scalar.indexCast arg11
  let c64_205 : Index := 64#32
  ![1, v307.toNat, 64]
def k0_off114 (k0_t4 : Fin k0_t4_loop.trips) : Fin 3 → Nat :=
  let c2_i32_206 : BitVec 32 := 2#32
  let v311 : Index := Scalar.indexCast c2_i32_206
  let c0_i32_128 : BitVec 32 := 0#32
  let c1_i32_130 : BitVec 32 := 1#32
  let arg11 : BitVec 32 := Scf.iv c0_i32_128 c1_i32_130 k0_t4
  let v312 : Index := Scalar.indexCast arg11
  let c64_207 : Index := 64#32
  ![2, v312.toNat, 64]
def k0_off115 (k0_t4 : Fin k0_t4_loop.trips) : Fin 3 → Nat :=
  let c3_i32_208 : BitVec 32 := 3#32
  let v316 : Index := Scalar.indexCast c3_i32_208
  let c0_i32_128 : BitVec 32 := 0#32
  let c1_i32_130 : BitVec 32 := 1#32
  let arg11 : BitVec 32 := Scf.iv c0_i32_128 c1_i32_130 k0_t4
  let v317 : Index := Scalar.indexCast arg11
  let c64_209 : Index := 64#32
  ![3, v317.toNat, 64]
def k0_off116 (k0_t4 : Fin k0_t4_loop.trips) : Fin 3 → Nat :=
  let c4_i32_210 : BitVec 32 := 4#32
  let v321 : Index := Scalar.indexCast c4_i32_210
  let c0_i32_128 : BitVec 32 := 0#32
  let c1_i32_130 : BitVec 32 := 1#32
  let arg11 : BitVec 32 := Scf.iv c0_i32_128 c1_i32_130 k0_t4
  let v322 : Index := Scalar.indexCast arg11
  let c64_211 : Index := 64#32
  ![4, v322.toNat, 64]
def k0_off117 (k0_t4 : Fin k0_t4_loop.trips) : Fin 3 → Nat :=
  let c5_i32_212 : BitVec 32 := 5#32
  let v326 : Index := Scalar.indexCast c5_i32_212
  let c0_i32_128 : BitVec 32 := 0#32
  let c1_i32_130 : BitVec 32 := 1#32
  let arg11 : BitVec 32 := Scf.iv c0_i32_128 c1_i32_130 k0_t4
  let v327 : Index := Scalar.indexCast arg11
  let c64_213 : Index := 64#32
  ![5, v327.toNat, 64]
def k0_off118 (k0_t4 : Fin k0_t4_loop.trips) : Fin 3 → Nat :=
  let c6_i32_214 : BitVec 32 := 6#32
  let v331 : Index := Scalar.indexCast c6_i32_214
  let c0_i32_128 : BitVec 32 := 0#32
  let c1_i32_130 : BitVec 32 := 1#32
  let arg11 : BitVec 32 := Scf.iv c0_i32_128 c1_i32_130 k0_t4
  let v332 : Index := Scalar.indexCast arg11
  let c64_215 : Index := 64#32
  ![6, v332.toNat, 64]
def k0_off119 (k0_t4 : Fin k0_t4_loop.trips) : Fin 3 → Nat :=
  let c7_i32_216 : BitVec 32 := 7#32
  let v336 : Index := Scalar.indexCast c7_i32_216
  let c0_i32_128 : BitVec 32 := 0#32
  let c1_i32_130 : BitVec 32 := 1#32
  let arg11 : BitVec 32 := Scf.iv c0_i32_128 c1_i32_130 k0_t4
  let v337 : Index := Scalar.indexCast arg11
  let c64_217 : Index := 64#32
  ![7, v337.toNat, 64]
def k0_off120 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v343 : Index := Scalar.indexCast arg11
  let c64_219 : Index := 64#32
  ![v343.toNat, 64]
def k0_off121 (k0_t4 : Fin k0_t4_loop.trips) : Fin 3 → Nat :=
  let c0_i32_220 : BitVec 32 := 0#32
  let v347 : Index := Scalar.indexCast c0_i32_220
  let c0_i32_128 : BitVec 32 := 0#32
  let c1_i32_130 : BitVec 32 := 1#32
  let arg11 : BitVec 32 := Scf.iv c0_i32_128 c1_i32_130 k0_t4
  let v348 : Index := Scalar.indexCast arg11
  let c80 : Index := 80#32
  ![0, v348.toNat, 80]
def k0_off122 (k0_t4 : Fin k0_t4_loop.trips) : Fin 3 → Nat :=
  let c1_i32_221 : BitVec 32 := 1#32
  let v351 : Index := Scalar.indexCast c1_i32_221
  let c0_i32_128 : BitVec 32 := 0#32
  let c1_i32_130 : BitVec 32 := 1#32
  let arg11 : BitVec 32 := Scf.iv c0_i32_128 c1_i32_130 k0_t4
  let v352 : Index := Scalar.indexCast arg11
  let c80_222 : Index := 80#32
  ![1, v352.toNat, 80]
def k0_off123 (k0_t4 : Fin k0_t4_loop.trips) : Fin 3 → Nat :=
  let c2_i32_223 : BitVec 32 := 2#32
  let v356 : Index := Scalar.indexCast c2_i32_223
  let c0_i32_128 : BitVec 32 := 0#32
  let c1_i32_130 : BitVec 32 := 1#32
  let arg11 : BitVec 32 := Scf.iv c0_i32_128 c1_i32_130 k0_t4
  let v357 : Index := Scalar.indexCast arg11
  let c80_224 : Index := 80#32
  ![2, v357.toNat, 80]
def k0_off124 (k0_t4 : Fin k0_t4_loop.trips) : Fin 3 → Nat :=
  let c3_i32_225 : BitVec 32 := 3#32
  let v361 : Index := Scalar.indexCast c3_i32_225
  let c0_i32_128 : BitVec 32 := 0#32
  let c1_i32_130 : BitVec 32 := 1#32
  let arg11 : BitVec 32 := Scf.iv c0_i32_128 c1_i32_130 k0_t4
  let v362 : Index := Scalar.indexCast arg11
  let c80_226 : Index := 80#32
  ![3, v362.toNat, 80]
def k0_off125 (k0_t4 : Fin k0_t4_loop.trips) : Fin 3 → Nat :=
  let c4_i32_227 : BitVec 32 := 4#32
  let v366 : Index := Scalar.indexCast c4_i32_227
  let c0_i32_128 : BitVec 32 := 0#32
  let c1_i32_130 : BitVec 32 := 1#32
  let arg11 : BitVec 32 := Scf.iv c0_i32_128 c1_i32_130 k0_t4
  let v367 : Index := Scalar.indexCast arg11
  let c80_228 : Index := 80#32
  ![4, v367.toNat, 80]
def k0_off126 (k0_t4 : Fin k0_t4_loop.trips) : Fin 3 → Nat :=
  let c5_i32_229 : BitVec 32 := 5#32
  let v371 : Index := Scalar.indexCast c5_i32_229
  let c0_i32_128 : BitVec 32 := 0#32
  let c1_i32_130 : BitVec 32 := 1#32
  let arg11 : BitVec 32 := Scf.iv c0_i32_128 c1_i32_130 k0_t4
  let v372 : Index := Scalar.indexCast arg11
  let c80_230 : Index := 80#32
  ![5, v372.toNat, 80]
def k0_off127 (k0_t4 : Fin k0_t4_loop.trips) : Fin 3 → Nat :=
  let c6_i32_231 : BitVec 32 := 6#32
  let v376 : Index := Scalar.indexCast c6_i32_231
  let c0_i32_128 : BitVec 32 := 0#32
  let c1_i32_130 : BitVec 32 := 1#32
  let arg11 : BitVec 32 := Scf.iv c0_i32_128 c1_i32_130 k0_t4
  let v377 : Index := Scalar.indexCast arg11
  let c80_232 : Index := 80#32
  ![6, v377.toNat, 80]
def k0_off128 (k0_t4 : Fin k0_t4_loop.trips) : Fin 3 → Nat :=
  let c7_i32_233 : BitVec 32 := 7#32
  let v381 : Index := Scalar.indexCast c7_i32_233
  let c0_i32_128 : BitVec 32 := 0#32
  let c1_i32_130 : BitVec 32 := 1#32
  let arg11 : BitVec 32 := Scf.iv c0_i32_128 c1_i32_130 k0_t4
  let v382 : Index := Scalar.indexCast arg11
  let c80_234 : Index := 80#32
  ![7, v382.toNat, 80]
def k0_off129 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v388 : Index := Scalar.indexCast arg11
  let c80_236 : Index := 80#32
  ![v388.toNat, 80]
def k0_off130 (k0_t4 : Fin k0_t4_loop.trips) : Fin 3 → Nat :=
  let c0_i32_237 : BitVec 32 := 0#32
  let v392 : Index := Scalar.indexCast c0_i32_237
  let c0_i32_128 : BitVec 32 := 0#32
  let c1_i32_130 : BitVec 32 := 1#32
  let arg11 : BitVec 32 := Scf.iv c0_i32_128 c1_i32_130 k0_t4
  let v393 : Index := Scalar.indexCast arg11
  let c96 : Index := 96#32
  ![0, v393.toNat, 96]
def k0_off131 (k0_t4 : Fin k0_t4_loop.trips) : Fin 3 → Nat :=
  let c1_i32_238 : BitVec 32 := 1#32
  let v396 : Index := Scalar.indexCast c1_i32_238
  let c0_i32_128 : BitVec 32 := 0#32
  let c1_i32_130 : BitVec 32 := 1#32
  let arg11 : BitVec 32 := Scf.iv c0_i32_128 c1_i32_130 k0_t4
  let v397 : Index := Scalar.indexCast arg11
  let c96_239 : Index := 96#32
  ![1, v397.toNat, 96]
def k0_off132 (k0_t4 : Fin k0_t4_loop.trips) : Fin 3 → Nat :=
  let c2_i32_240 : BitVec 32 := 2#32
  let v401 : Index := Scalar.indexCast c2_i32_240
  let c0_i32_128 : BitVec 32 := 0#32
  let c1_i32_130 : BitVec 32 := 1#32
  let arg11 : BitVec 32 := Scf.iv c0_i32_128 c1_i32_130 k0_t4
  let v402 : Index := Scalar.indexCast arg11
  let c96_241 : Index := 96#32
  ![2, v402.toNat, 96]
def k0_off133 (k0_t4 : Fin k0_t4_loop.trips) : Fin 3 → Nat :=
  let c3_i32_242 : BitVec 32 := 3#32
  let v406 : Index := Scalar.indexCast c3_i32_242
  let c0_i32_128 : BitVec 32 := 0#32
  let c1_i32_130 : BitVec 32 := 1#32
  let arg11 : BitVec 32 := Scf.iv c0_i32_128 c1_i32_130 k0_t4
  let v407 : Index := Scalar.indexCast arg11
  let c96_243 : Index := 96#32
  ![3, v407.toNat, 96]
def k0_off134 (k0_t4 : Fin k0_t4_loop.trips) : Fin 3 → Nat :=
  let c4_i32_244 : BitVec 32 := 4#32
  let v411 : Index := Scalar.indexCast c4_i32_244
  let c0_i32_128 : BitVec 32 := 0#32
  let c1_i32_130 : BitVec 32 := 1#32
  let arg11 : BitVec 32 := Scf.iv c0_i32_128 c1_i32_130 k0_t4
  let v412 : Index := Scalar.indexCast arg11
  let c96_245 : Index := 96#32
  ![4, v412.toNat, 96]
def k0_off135 (k0_t4 : Fin k0_t4_loop.trips) : Fin 3 → Nat :=
  let c5_i32_246 : BitVec 32 := 5#32
  let v416 : Index := Scalar.indexCast c5_i32_246
  let c0_i32_128 : BitVec 32 := 0#32
  let c1_i32_130 : BitVec 32 := 1#32
  let arg11 : BitVec 32 := Scf.iv c0_i32_128 c1_i32_130 k0_t4
  let v417 : Index := Scalar.indexCast arg11
  let c96_247 : Index := 96#32
  ![5, v417.toNat, 96]
def k0_off136 (k0_t4 : Fin k0_t4_loop.trips) : Fin 3 → Nat :=
  let c6_i32_248 : BitVec 32 := 6#32
  let v421 : Index := Scalar.indexCast c6_i32_248
  let c0_i32_128 : BitVec 32 := 0#32
  let c1_i32_130 : BitVec 32 := 1#32
  let arg11 : BitVec 32 := Scf.iv c0_i32_128 c1_i32_130 k0_t4
  let v422 : Index := Scalar.indexCast arg11
  let c96_249 : Index := 96#32
  ![6, v422.toNat, 96]
def k0_off137 (k0_t4 : Fin k0_t4_loop.trips) : Fin 3 → Nat :=
  let c7_i32_250 : BitVec 32 := 7#32
  let v426 : Index := Scalar.indexCast c7_i32_250
  let c0_i32_128 : BitVec 32 := 0#32
  let c1_i32_130 : BitVec 32 := 1#32
  let arg11 : BitVec 32 := Scf.iv c0_i32_128 c1_i32_130 k0_t4
  let v427 : Index := Scalar.indexCast arg11
  let c96_251 : Index := 96#32
  ![7, v427.toNat, 96]
def k0_off138 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v433 : Index := Scalar.indexCast arg11
  let c96_253 : Index := 96#32
  ![v433.toNat, 96]
def k0_off139 (k0_t4 : Fin k0_t4_loop.trips) : Fin 3 → Nat :=
  let c0_i32_254 : BitVec 32 := 0#32
  let v437 : Index := Scalar.indexCast c0_i32_254
  let c0_i32_128 : BitVec 32 := 0#32
  let c1_i32_130 : BitVec 32 := 1#32
  let arg11 : BitVec 32 := Scf.iv c0_i32_128 c1_i32_130 k0_t4
  let v438 : Index := Scalar.indexCast arg11
  let c112 : Index := 112#32
  ![0, v438.toNat, 112]
def k0_off140 (k0_t4 : Fin k0_t4_loop.trips) : Fin 3 → Nat :=
  let c1_i32_255 : BitVec 32 := 1#32
  let v441 : Index := Scalar.indexCast c1_i32_255
  let c0_i32_128 : BitVec 32 := 0#32
  let c1_i32_130 : BitVec 32 := 1#32
  let arg11 : BitVec 32 := Scf.iv c0_i32_128 c1_i32_130 k0_t4
  let v442 : Index := Scalar.indexCast arg11
  let c112_256 : Index := 112#32
  ![1, v442.toNat, 112]
def k0_off141 (k0_t4 : Fin k0_t4_loop.trips) : Fin 3 → Nat :=
  let c2_i32_257 : BitVec 32 := 2#32
  let v446 : Index := Scalar.indexCast c2_i32_257
  let c0_i32_128 : BitVec 32 := 0#32
  let c1_i32_130 : BitVec 32 := 1#32
  let arg11 : BitVec 32 := Scf.iv c0_i32_128 c1_i32_130 k0_t4
  let v447 : Index := Scalar.indexCast arg11
  let c112_258 : Index := 112#32
  ![2, v447.toNat, 112]
def k0_off142 (k0_t4 : Fin k0_t4_loop.trips) : Fin 3 → Nat :=
  let c3_i32_259 : BitVec 32 := 3#32
  let v451 : Index := Scalar.indexCast c3_i32_259
  let c0_i32_128 : BitVec 32 := 0#32
  let c1_i32_130 : BitVec 32 := 1#32
  let arg11 : BitVec 32 := Scf.iv c0_i32_128 c1_i32_130 k0_t4
  let v452 : Index := Scalar.indexCast arg11
  let c112_260 : Index := 112#32
  ![3, v452.toNat, 112]
def k0_off143 (k0_t4 : Fin k0_t4_loop.trips) : Fin 3 → Nat :=
  let c4_i32_261 : BitVec 32 := 4#32
  let v456 : Index := Scalar.indexCast c4_i32_261
  let c0_i32_128 : BitVec 32 := 0#32
  let c1_i32_130 : BitVec 32 := 1#32
  let arg11 : BitVec 32 := Scf.iv c0_i32_128 c1_i32_130 k0_t4
  let v457 : Index := Scalar.indexCast arg11
  let c112_262 : Index := 112#32
  ![4, v457.toNat, 112]
def k0_off144 (k0_t4 : Fin k0_t4_loop.trips) : Fin 3 → Nat :=
  let c5_i32_263 : BitVec 32 := 5#32
  let v461 : Index := Scalar.indexCast c5_i32_263
  let c0_i32_128 : BitVec 32 := 0#32
  let c1_i32_130 : BitVec 32 := 1#32
  let arg11 : BitVec 32 := Scf.iv c0_i32_128 c1_i32_130 k0_t4
  let v462 : Index := Scalar.indexCast arg11
  let c112_264 : Index := 112#32
  ![5, v462.toNat, 112]
def k0_off145 (k0_t4 : Fin k0_t4_loop.trips) : Fin 3 → Nat :=
  let c6_i32_265 : BitVec 32 := 6#32
  let v466 : Index := Scalar.indexCast c6_i32_265
  let c0_i32_128 : BitVec 32 := 0#32
  let c1_i32_130 : BitVec 32 := 1#32
  let arg11 : BitVec 32 := Scf.iv c0_i32_128 c1_i32_130 k0_t4
  let v467 : Index := Scalar.indexCast arg11
  let c112_266 : Index := 112#32
  ![6, v467.toNat, 112]
def k0_off146 (k0_t4 : Fin k0_t4_loop.trips) : Fin 3 → Nat :=
  let c7_i32_267 : BitVec 32 := 7#32
  let v471 : Index := Scalar.indexCast c7_i32_267
  let c0_i32_128 : BitVec 32 := 0#32
  let c1_i32_130 : BitVec 32 := 1#32
  let arg11 : BitVec 32 := Scf.iv c0_i32_128 c1_i32_130 k0_t4
  let v472 : Index := Scalar.indexCast arg11
  let c112_268 : Index := 112#32
  ![7, v472.toNat, 112]
def k0_off147 (k0_t4 : Fin k0_t4_loop.trips) : Fin 2 → Nat :=
  let c0_i32_128 : BitVec 32 := 0#32
  let c1_i32_130 : BitVec 32 := 1#32
  let arg11 : BitVec 32 := Scf.iv c0_i32_128 c1_i32_130 k0_t4
  let v478 : Index := Scalar.indexCast arg11
  let c112_270 : Index := 112#32
  ![v478.toNat, 112]
def k0_off148 (i : grid0.Coords) (k0_t3 : Fin (k0_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let c624_i32 : BitVec 32 := 624#32
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_9 : BitVec 32 := 1#32
  let arg10 : BitVec 32 := Scf.iv v25 c1_i32_9 k0_t3
  let c32_i32_10 : BitVec 32 := 32#32
  let v26 : BitVec 32 := Scalar.muli arg10 c32_i32_10
  let v27 : BitVec 32 := Scalar.addi v1 v26
  let c80_i32 : BitVec 32 := 80#32
  let v28 : BitVec 32 := Scalar.muli v27 c80_i32
  let c0_i32_132 : BitVec 32 := 0#32
  ![v28.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S8x50000 : Shape := ⟨2, ![8, 50000]⟩
abbrev S_ : Shape := ⟨0, ![]⟩
abbrev S1x128 : Shape := ⟨2, ![1, 128]⟩
abbrev S100001x128 : Shape := ⟨2, ![100001, 128]⟩
abbrev S8x50000x1 : Shape := ⟨3, ![8, 50000, 1]⟩
abbrev S1 : Shape := ⟨1, ![1]⟩
abbrev S1x1x1 : Shape := ⟨3, ![1, 1, 1]⟩
abbrev S8x50000x128 : Shape := ⟨3, ![8, 50000, 128]⟩
abbrev S50000x128 : Shape := ⟨2, ![50000, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8x50000, .i32⟩
  | .hbm, ⟨2, _⟩ => ⟨S_, .f32⟩
  | .hbm, ⟨3, _⟩ => ⟨S1x128, .f32⟩
  | .hbm, ⟨4, _⟩ => ⟨S100001x128, .f32⟩
  | .hbm, ⟨5, _⟩ => ⟨S_, .i32⟩
  | .hbm, ⟨6, _⟩ => ⟨S8x50000, .i32⟩
  | .hbm, ⟨7, _⟩ => ⟨S8x50000, .i32⟩
  | .hbm, ⟨8, _⟩ => ⟨S_, .i32⟩
  | .hbm, ⟨9, _⟩ => ⟨S8x50000, .i32⟩
  | .hbm, ⟨10, _⟩ => ⟨S8x50000, .i1⟩
  | .hbm, ⟨11, _⟩ => ⟨S_, .i32⟩
  | .hbm, ⟨12, _⟩ => ⟨S8x50000, .i32⟩
  | .hbm, ⟨13, _⟩ => ⟨S8x50000, .i32⟩
  | .hbm, ⟨14, _⟩ => ⟨S8x50000, .i32⟩
  | .hbm, ⟨15, _⟩ => ⟨S8x50000x1, .i32⟩
  | .hbm, ⟨16, _⟩ => ⟨S1, .i32⟩
  | .hbm, ⟨17, _⟩ => ⟨S_, .i32⟩
  | .hbm, ⟨18, _⟩ => ⟨S8x50000x1, .i32⟩
  | .hbm, ⟨19, _⟩ => ⟨S8x50000x1, .i1⟩
  | .hbm, ⟨20, _⟩ => ⟨S1x1x1, .i32⟩
  | .hbm, ⟨21, _⟩ => ⟨S8x50000x1, .i32⟩
  | .hbm, ⟨22, _⟩ => ⟨S8x50000x1, .i1⟩
  | .hbm, ⟨23, _⟩ => ⟨S8x50000x1, .i1⟩
  | .hbm, ⟨24, _⟩ => ⟨S_, .i1⟩
  | .hbm, ⟨25, _⟩ => ⟨S8x50000, .i1⟩
  | .hbm, ⟨26, _⟩ => ⟨S8x50000x128, .f32⟩
  | .hbm, ⟨27, _⟩ => ⟨S8x50000x128, .i1⟩
  | .hbm, ⟨28, _⟩ => ⟨S_, .f32⟩
  | .hbm, ⟨29, _⟩ => ⟨S8x50000x128, .f32⟩
  | .hbm, ⟨30, _⟩ => ⟨S8x50000x128, .f32⟩
  | .hbm, ⟨31, _⟩ => ⟨S_, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]
-- ==== Proof.GatherBatch.lean ====
/- Several indirect gathers outstanding on ONE semaphore. The kernel starts eight of them before it waits for
   any, and each gather is served row by row, so what the semaphore counts is rows: this file treats all the rows
   of all the gathers as the transfers of one `Transfers.Batch`.

   `RowGot` is what one served row hands back. `wp_gatherRows` issues one gather whose rows are the next `o`
   transfers of the batch, and `rowsGot_join` puts the rows of a gather together again: the destination holding
   the gathered rows, and the shares of the table and of the index list as they were lent. -/
module

public import Idealize.ShloMosaic.Lib.SparseCore.Stream
public import Idealize.ShloMosaic.Lib.Batch

@[expose] public section

noncomputable section

namespace Cert.Gathered

open Idealize.ShloMosaic
open Idealize.SL Idealize.SL.RA
open Idealize.SL.BI (sProp Storable bigSep)
open scoped Idealize.SL.BI
open Idealize.SL.BI.BIBase Idealize.SL.BI.Laws Idealize.SL.Sem Idealize.SL.ProofMode
open Idealize.ShloMosaic.SparseCore

section Pending

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- The issue rights from transfer `k` on are those of the next `o` transfers and those from `k + o` on. -/
theorem pending_block {n k o : ℕ} (h : k + o ≤ n) (Φ : Fin n → sProp 𝕄) :
    bigSep (Transfers.pending k) Φ
      = iprop(bigSep Finset.univ (fun j : Fin o => Φ ⟨k + j.val, by have := j.isLt; omega⟩) ∗ bigSep (Transfers.pending (k + o)) Φ) := by
  classical
  let f : Fin o ↪ Fin n := ⟨fun j => ⟨k + j.val, by have := j.isLt; omega⟩, fun a b hab => Fin.ext (by
    have := congrArg Fin.val hab; dsimp only at this; omega)⟩
  have hset : Transfers.pending (n := n) k = Finset.univ.map f ∪ Transfers.pending (k + o) := by
    ext t
    simp only [Transfers.pending, Finset.mem_filter, Finset.mem_univ, true_and, Finset.mem_union, Finset.mem_map]
    constructor
    · intro ht
      by_cases hlt : t.val < k + o
      · exact .inl ⟨⟨t.val - k, by omega⟩, Fin.ext (show k + (t.val - k) = t.val by omega)⟩
      · exact .inr (by omega)
    · rintro (⟨j, rfl⟩ | ht)
      · exact Nat.le_add_right _ _
      · omega
  have hdis : Disjoint (Finset.univ.map f) (Transfers.pending (n := n) (k + o)) := by
    refine Finset.disjoint_left.mpr fun t ht ht' => ?_
    obtain ⟨j, -, rfl⟩ := Finset.mem_map.mp ht
    have h1 : k + o ≤ k + j.val := (Finset.mem_filter.mp ht').2
    have := j.isLt
    omega
  rw [hset, BI.bigSep_union hdis, BI.bigSep_map]; rfl

end Pending

section Rows

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section Served

variable (src : Memref sig c.2.kind sp s₀ e) (dst : Memref sig c.2.kind .vmem s e) (hg : s₀.Gathers a s)
  (offs : Memref sig c.2.kind .vmem si .i32) (hn : si.numel = s.size hg.axis')
  (q qo : PosShare TreeShare) (fs : Buf (Elt F) (src.view.loc c)) (fd : Buf (Elt F) (dst.view.loc c)) (fo : Buf (Elt F) (offs.view.loc c))

/-- The place in the index list of a gather's entry `j`: the list read in row-major order. -/
def entryAt (j : Fin (s.size hg.axis')) : si.Idx := si.rowMajor.symm (j.cast hn.symm)

/-- What the engine writes into row `j` of the destination: the table's row named by entry `j`. -/
def rowWord (hin : ∀ x, (offs.view.read (Elt F) fo x).toNat < s₀.size hg.axis) (j : Fin (s.size hg.axis')) :
    (s.rowShape hg.axis').Idx → Elt F e :=
  fun i => src.view.read (Elt F) fs (hg.rowIdx (rows (offs.view.read (Elt F) fo) hn hin j) i)

/-- What a served row `j` hands back: the destination's row with the table's row in it, the share of the list's entry `j`,
    and one piece of the share of the table. -/
def RowGot (hs : 0 < s.numel) (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd (rowWord c src hg offs hn fs fo hin j) Finset.univ))
      ∗ (offs.view.loc c ↦[{offs.view.emb (entryAt hg hn j)}]{qo} fo))
    ∗ (src.view.loc c ↦[src.view.set]{pieceOf q _ (Shape.size_pos_of_numel_pos hs _) j} fs))

instance rowGot_storable (hs : 0 < s.numel) (hin : ∀ x, (offs.view.read (Elt F) fo x).toNat < s₀.size hg.axis) (j : Fin (s.size hg.axis')) :
    Storable (upEmb : UEmb _ 𝕄) (RowGot c src dst hg offs hn q qo fs fd fo hs hin j) := by
  unfold RowGot; infer_instance

/-- The rows of one gather, all served, are the destination holding at each row the table's row the list names, the
    share of the table, and the share of the list. -/
theorem rowsGot_join (hs : 0 < s.numel) (hin : ∀ x, (offs.view.read (Elt F) fo x).toNat < s₀.size hg.axis) :
    bigSep Finset.univ (RowGot (Ix := Ix) (Name := Name) (U := U) (Lvl := Lvl) c src dst hg offs hn q qo fs fd fo hs hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hW : ∀ j i, rowWord c src hg offs hn fs fo hin j i
      = gatherPayload hg (src.view.read (Elt F) fs) (rows (offs.view.read (Elt F) fo) hn hin) ((s.rowRect hg.axis' j).emb i) := fun j i => by
    unfold gatherPayload rowWord; rw [Shape.Gathers.idx_rowRect_emb]
  have hen : Function.Bijective (entryAt hg hn) := si.rowMajor.symm.bijective.comp (finCongr hn.symm).bijective
  unfold RowGot
  iintro H
  ihave H := Transfers.bigSep_sep_out _ _ _ $$ H
  icases H with ⟨H, Hsrc⟩
  ihave H := Transfers.bigSep_sep_out _ _ _ $$ H
  icases H with ⟨Hdst, Hlist⟩
  isplitl [Hdst]
  · iapply (pointsTo_rows_write c dst.view hg.axis' fd _ _ hW) $$ Hdst
  isplitl [Hsrc]
  · rw [pointsTo_piecesOf (src.view.set) fs (Shape.size_pos_of_numel_pos hs hg.axis') q]; iexact Hsrc
  · rw [pointsTo_entries c offs.view (entryAt hg hn) hen qo fo]; iexact Hlist

end Served

/-- ISSUING A GATHER INTO A BATCH: the batch has issued `k₀` transfers of `N` units, every row of this gather is worth `N`
    units (`hcred`) and the batch's transfers from `k₀` on are this gather's rows (`hD`). Holding a share of the table,
    the destination outright and a share of the index list whose words are all rows of the table, the tile issues the
    gather and continues with `o` more transfers issued. -/
theorem wp_gatherRows [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) {D : Fin n → sProp 𝕄} {k₀ u : ℕ} (hu : u ≤ k₀ * N) (hle : k₀ + s.size hg.axis' ≤ n)
    (hcred : ∀ j, (dst.slice (s.rowRect hg.axis' j) (s.stride_rowRect hg.axis' j)).view.dmaCredit = N)
    (hs : 0 < s.numel) (hin : ∀ x, (offs.view.read (Elt F) fo x).toNat < s₀.size hg.axis)
    (hD : ∀ j : Fin (s.size hg.axis'), RowGot c src dst hg offs hn q qo fs fd fo hs hin j ⊢ D ⟨k₀ + j.val, by have := j.isLt; omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k₀ u)
      ⊢ iprop((Transfers.Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let pick : Fin (s.size hg.axis') → Fin (s₀.size hg.axis) := rows (offs.view.read (Elt F) fo) hn hin
  let row : Fin (s.size hg.axis') → Elt F .i32 → Option (RowDma τ sig (Elt F) c.2 sem) := fun j w => (rowOf (s₀.size hg.axis) w).map (gatherRow c src dst hg sem hsrc he hsp hr j)
  let served : Fin (s.size hg.axis') → RowDma τ sig (Elt F) c.2 sem := fun j => gatherRow c src dst hg sem hsrc he hsp hr j (pick j)
  have hagree : (Stream.issued c offs.view hn sem row 0).RowsAgree := fun j x x' ρ ρ' h h' => by
    obtain ⟨_, -, rfl⟩ := Option.map_eq_some_iff.mp h
    obtain ⟨_, -, rfl⟩ := Option.map_eq_some_iff.mp h'
    rfl
  have hserve : ∀ j, row j ((Stream.issued c offs.view hn sem row 0).word fo j) = some (served j) := fun j => by
    change (rowOf (s₀.size hg.axis) (offs.view.read (Elt F) fo (entryAt hg hn j))).map _ = _
    rw [rowOf_of_lt (hin _)]; rfl
  have hen : Function.Bijective (entryAt hg hn) := si.rowMajor.symm.bijective.comp (finCongr hn.symm).bijective
  have hsum : ∑ j, (served j).dst.view.dmaCredit = s.size hg.axis' * N := by
    rw [Finset.sum_congr rfl fun j _ => hcred j, Finset.sum_const, Finset.card_univ, Fintype.card_fin, smul_eq_mul]
  unfold Transfers.Batch
  iintro ⟨Hs, Hd, Ho, ⟨%γ, %γ₀, %κ, #Hinv, Hrights, Hspent, Hcr⟩⟩ Hk
  ihave Hrights := (Entails.of_eq (pending_block hle (fun t => count EC (γ t) 0))) $$ Hrights
  icases Hrights with ⟨Hmine, Hrest⟩
  ihave Hd := (Entails.of_eq (pointsTo_rows c dst.view hg.axis' fullShare fd)) $$ Hd
  ihave Ho := (Entails.of_eq (pointsTo_entries c offs.view (entryAt hg hn) hen qo fo)) $$ Ho
  ihave Hs := (Entails.of_eq (pointsTo_piecesOf (src.view.set) fs ho q)) $$ Hs
  iapply (wp_enqueueIndirectDma 𝒱 c bd Set.univ (qo := qo) (fo := fo)
    (rd := served) ι (s.size hg.axis' * N) hagree hserve hsum) $$ [Hd Ho Hs Hmine]
  · have hone : ∀ j : Fin (s.size hg.axis'), iprop(inv κ (Transfers.batchBody EC (c, SemLoc.dma sem) N D γ γ₀)
          ∗ ((((dst.view.loc c ↦[(dst.view.slice (s.rowRect hg.axis' j)).set]{fullShare} fd)
                ∗ (offs.view.loc c ↦[{offs.view.emb (entryAt hg hn j)}]{qo} fo))
              ∗ (src.view.loc c ↦[src.view.set]{pieceOf q _ ho j} fs))
            ∗ count EC (γ ⟨k₀ + j.val, by have := j.isLt; omega⟩) 0))
        ⊢ iprop((Stream.issued c offs.view hn sem row 0).heldEntry qo fo j
            ∗ ((Stream.issued c offs.view hn sem row 0).heldEntry qo fo j -∗ rowRes c (served j))) := fun j => by
      iintro ⟨#Hinv, ⟨⟨Hrow, Hent⟩, Hpc⟩, Hright⟩
      isplitl [Hent]; · iexact Hent
      iintro Hent
      unfold rowRes
      iexists pieceOf q _ ho j, fs, iprop((dst.view.loc c ↦[(dst.view.slice (s.rowRect hg.axis' j)).set]{fullShare}
          ((dst.view.slice (s.rowRect hg.axis' j)).write (Elt F) fd (rowWord c src hg offs hn fs fo hin j) Finset.univ))
        ∗ (offs.view.loc c ↦[{offs.view.emb (entryAt hg hn j)}]{qo} fo))
      isplitl [Hpc]; · iexact Hpc
      isplitl [Hrow Hent]
      · iapply writeUpdate_frame
        isplitl [Hrow]
        · iapply (pointsTo_writeUpdate c (v := dst.view.slice (s.rowRect hg.axis' j)) subset_rfl) $$ Hrow
        · iexact Hent
      have hN : (served j).dst.view.amount (SemLoc.dma sem) = N := hcred j
      rw [hN]
      iapply (Transfers.batch_creditUpdate EC (N := N) (D := D) (γ := γ) (γ₀ := γ₀) ⟨k₀ + j.val, by have := j.isLt; omega⟩ (hD j))
      isplitr; · iexact Hinv
      iexact Hright
    unfold Stream.res
    ihave H := Transfers.bigSep_sep_in _ _ _ $$ [Hd Ho]; · isplitl [Hd] <;> iassumption
    ihave H := Transfers.bigSep_sep_in _ _ _ $$ [H Hs]; · isplitl [H] <;> iassumption
    ihave H := Transfers.bigSep_sep_in _ _ _ $$ [H Hmine]; · isplitl [H] <;> iassumption
    iapply (Transfers.bigSep_mono_pers Finset.univ _ _ _ fun j _ => hone j)
    isplitr; · iexact Hinv
    iexact H
  · iintro Hmore
    iapply Hk
    iexists γ, γ₀, κ
    isplitr; · iexact Hinv
    isplitl [Hrest]; · iexact Hrest
    isplitl [Hspent]; · iexact Hspent
    rw [show (k₀ + s.size hg.axis') * N - u = (k₀ * N - u) + s.size hg.axis' * N by rw [Nat.add_mul]; omega, ← tallyAt_add]
    icombine Hcr Hmore as H
    iexact H

end Rows

end Cert.Gathered

end
-- ==== Proof.Setup.lean ====
/- The kernel's vocabulary, shared by the modules after this one: the machine parameters of the run, the operands under
   short names, the arithmetic of the chunks each tile works on, and the value the kernel leaves in its result.

   A TILE is one of the 32 vector subcores, named by its coordinates `L`; it is number `wid L` of 32. A CHUNK is 80
   consecutive rows of the result; there are 625 of them, and tile `w` works on the chunks `w`, `w + 32`, `w + 64`, … -/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.LoopRemainder
public import Idealize.ShloMosaic.Lib.Tactic
public import proofs.«01_k».proof.Proof.Gen.KernelIdeal
public import proofs.«01_k».proof.Proof.Gen.KernelIdeal.Skeleton

@[expose] public section

noncomputable section

namespace Cert.GatherMean

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The run's parameters -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds, and the counters of the copies in flight. -/
abbrev UH : Type := URounds (GSem nD τ sig) ℕ
abbrev UU : Type := UH × Counters

/-- The tile `L`'s SparseCore, its subcore, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The operands -/

/-- The table of features, the index list laid flat, and the result, as a tile addresses them. -/
abbrev featM : Memref sig .scVector .hbm S100000x128 .f32 := Memref.whole main_arg0_scv
abbrev listM : Memref sig .scVector .hbm S400000 .i32 := Memref.whole main_v0_scv
abbrev outM : Memref sig .scVector .hbm S50000x128 .f32 := Memref.whole main_v1_scv
/-- A tile's own buffers: a chunk's indices, the rows they name, and the chunk's means. -/
abbrev idxM : Memref sig .scVector .vmem S8x80 .i32 := Memref.whole cc0_scratch0
abbrev rowsM : Memref sig .scVector .vmem S8x80x128 .f32 := Memref.whole cc0_scratch1
abbrev meanM : Memref sig .scVector .vmem S80x128 .f32 := Memref.whole cc0_scratch2

abbrev featLoc (d : Dev nD) : Loc nD τ sig := (SparseCore.T d).loc main_arg0
abbrev argLoc (d : Dev nD) : Loc nD τ sig := (SparseCore.T d).loc main_arg1
abbrev listLoc (d : Dev nD) : Loc nD τ sig := (SparseCore.T d).loc main_v0
abbrev outLoc (d : Dev nD) : Loc nD τ sig := (SparseCore.T d).loc main_v1

/-! ## Chunks -/

/-- The number of tile `L` among the 32. -/
def wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

/-- The chunk tile `L` works on in trip `t`. -/
def chunk (L : grid0.Coords) (t : ℕ) : ℕ := wid L + 32 * t

/-- A tile makes one trip for each of its chunks below 625. -/
theorem trips_eq : ∀ L : grid0.Coords, (k0_t1_loop L).trips = (624 - wid L) / 32 + 1 := by decide +kernel

/-- The second chunk loop, the remainder of an unrolling by one, makes no trip. -/
theorem rest_trips : ∀ L : grid0.Coords, (k0_t3_loop L).trips = 0 := by decide +kernel

theorem chunk_lt (L : grid0.Coords) (t : Fin (k0_t1_loop L).trips) : chunk L t.val < 625 := by
  have h := t.isLt.trans_eq (trips_eq L)
  have := wid_lt L
  unfold chunk; omega

/-- Trip `t`'s indices for neighbour `k` start at place `50000 k + 80 c` of the flat list, `c` the trip's chunk. -/
theorem list_offset : ∀ (L : grid0.Coords) (t : Fin (k0_t1_loop L).trips) (k : Fin 8),
    k0_off1 L t (BitVec.ofNat 32 (50000 * k.val)) = ![50000 * k.val + chunk L t.val * 80] := by decide +kernel

/-- Trip `t`'s rows of the result start at row `80 c`. -/
theorem out_offset : ∀ (L : grid0.Coords) (t : Fin (k0_t1_loop L).trips), k0_off74 L t = ![chunk L t.val * 80, 0] := by decide +kernel

/-! ## The value -/

/-- The row of the table a word names. -/
def rowOfWord (w : BitVec 32) : Fin 100000 := Fin.ofNat 100000 w.toNat

/-- An element of the table. -/
abbrev featAt (r : Fin 100000) (c : Fin 128) : S100000x128.Idx := fun a => match a with
  | 0 => r
  | 1 => c

/-- Neighbour `k` of result row `r` in the flat list. -/
abbrev listAt (k : Fin 8) (r : Fin 50000) : S400000.Idx := fun a => match a with
  | 0 => ⟨50000 * k.val + r.val, show _ < 400000 by omega⟩

variable [FloatOps F]

/-- The kernel's mean of eight values: added from the left, times the constant 0.125. -/
def meanOf (a : Fin 8 → F .f32) : F .f32 :=
  FloatOps.mulf (FloatOps.addf (FloatOps.addf (FloatOps.addf (FloatOps.addf (FloatOps.addf (FloatOps.addf (FloatOps.addf (a 0) (a 1)) (a 2)) (a 3)) (a 4)) (a 5)) (a 6)) (a 7))
    (Scalar.ofBits .f32 0x3E000000#32)

/-- The result: row `r` is the mean of the table's rows that the eight neighbours of `r` name. -/
def meanRows (feat : S100000x128.Idx → F .f32) (list : S400000.Idx → BitVec 32) : S50000x128.Idx → F .f32 :=
  fun x => meanOf fun k => feat (featAt (rowOfWord (list (listAt k (x 0)))) (x 1))

end Cert.GatherMean

end
-- ==== Proof.RowLoop.lean ====
/- The inner loop: from a chunk's eight gathered rows each, the chunk's means. -/
module

public import proofs.«01_k».proof.Proof.Setup

@[expose] public section

noncomputable section

namespace Cert.GatherMean

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The inner loop's body at the kernel's operands. -/
abbrev rowBody (L : grid0.Coords) :=
  k0_t2_body (F := F) L featM (Memref.isWhole_whole _) listM (Memref.isWhole_whole _) outM (Memref.isWhole_whole _) idxM (Memref.isWhole_whole _)
    rowsM (Memref.isWhole_whole _) meanM (Memref.isWhole_whole _) cc0_scratch3 cc0_scratch4 cc0_scoped0 cc0_scoped1 cc0_scoped2 cc0_scoped3
    cc0_scoped4 cc0_scoped5 cc0_scoped6 cc0_scoped7 cc0_scoped8 cc0_scoped9 cc0_scoped10 cc0_scoped11 cc0_scoped12 cc0_scoped13 cc0_scoped14 cc0_scoped15

/-! ## One group of sixteen lanes -/

/-- The induction variable's word is the trip's number. -/
theorem row_word : ∀ j : Fin k0_t2_loop.trips, (Scalar.indexCast (Scf.iv 0#32 1#32 j.val) : Index).toNat = j.val := by decide +kernel

/-- Vector `a` holds sixteen lanes of row `j` of neighbour `k`'s rows, from lane `c` on. -/
def Lanes (G : S8x80x128.Idx → F .f32) (j c k : ℕ) (a : Vec F S1x1x16 .f32) : Prop :=
  ∀ (l : S1x1x16.Idx) (i : S8x80x128.Idx), (i 0).val = k → (i 1).val = j → (i 2).val = c + (l 2).val → a l = G i

omit [FloatOps F] in
/-- A load of the gathered rows at `[k, j, c]` holds those lanes. -/
theorem lanes_load (G : rowsM.view.ty.Contents (Elt F)) {j c k : ℕ} {off : Fin 3 → ℕ} (inb : ∀ a, off a + S1x1x16.size a ≤ S8x80x128.size a)
    (h0 : off 0 = k) (h1 : off 1 = j) (h2 : off 2 = c) :
    Lanes G j c k (View.readAt (Elt F) rowsM.view (Rect.unit (s := S8x80x128) off S1x1x16.size inb).toLoadRect G) := by
  intro l i hk hj hc
  have h : (Rect.unit (s := S8x80x128) off S1x1x16.size inb).toLoadRect.idx l = i := funext fun a => Fin.ext (by
    have h00 : (l 0).val = 0 := by have : (l 0).val < 1 := (l 0).isLt; omega
    have h01 : (l 1).val = 0 := by have : (l 1).val < 1 := (l 1).isLt; omega
    match a with
    | 0 => show off 0 + 1 * (l 0).val = (i 0).val; omega
    | 1 => show off 1 + 1 * (l 1).val = (i 1).val; omega
    | 2 => show off 2 + 1 * (l 2).val = (i 2).val; omega)
  subst h
  exact congrFun (View.read_whole _ _) _

/-- A flat lane among one row's sixteen, and among one block's. -/
theorem flat_lane : ∀ x : S1x16.Idx, ((Shape.reshapeEquiv shapeCasts_S1x1x16_S16 (Shape.reshapeEquiv shapeCasts_S16_S1x16 x)) 2).val = (x 1).val := by
  decide +kernel

/-- The means of a chunk: row `j`, column `c`, is the mean of the eight gathered values there. -/
def meansOf (G : S8x80x128.Idx → F .f32) : S80x128.Idx → F .f32 :=
  fun y => meanOf fun k => G fun a => match a with
    | 0 => k
    | 1 => y 0
    | 2 => y 1

/-- What the kernel computes from eight vectors of sixteen lanes: their sum from the left, times 0.125. -/
abbrev meanVec (a0 a1 a2 a3 a4 a5 a6 a7 : Vec F S1x1x16 .f32) : FVec F S1x16 .f32 :=
  shapeCast S1x16 (mulf (addf (addf (addf (addf (addf (addf (addf (shapeCast S16 a0 shapeCasts_S1x1x16_S16)
    (shapeCast S16 a1 shapeCasts_S1x1x16_S16)) (shapeCast S16 a2 shapeCasts_S1x1x16_S16)) (shapeCast S16 a3 shapeCasts_S1x1x16_S16))
    (shapeCast S16 a4 shapeCasts_S1x1x16_S16)) (shapeCast S16 a5 shapeCasts_S1x1x16_S16)) (shapeCast S16 a6 shapeCasts_S1x1x16_S16))
    (shapeCast S16 a7 shapeCasts_S1x1x16_S16)) (broadcast S16 (Scalar.ofBits .f32 0x3E000000#32))) shapeCasts_S16_S1x16

/-- Of the eight neighbours' lanes this is those lanes of the means. -/
theorem lanes_mean {G : S8x80x128.Idx → F .f32} {j c : ℕ} {a0 a1 a2 a3 a4 a5 a6 a7 : Vec F S1x1x16 .f32}
    (h0 : Lanes G j c 0 a0) (h1 : Lanes G j c 1 a1) (h2 : Lanes G j c 2 a2) (h3 : Lanes G j c 3 a3)
    (h4 : Lanes G j c 4 a4) (h5 : Lanes G j c 5 a5) (h6 : Lanes G j c 6 a6) (h7 : Lanes G j c 7 a7)
    {off : Fin 2 → ℕ} (inb : ∀ a, off a + S1x16.size a ≤ S80x128.size a) (hj : off 0 = j) (hc : off 1 = c) (x : S1x16.Idx) :
    meanVec a0 a1 a2 a3 a4 a5 a6 a7 x = meansOf G ((Rect.unit (s := S80x128) off S1x16.size inb).emb x) := by
  have hl := flat_lane x
  have hx0 : (x 0).val = 0 := by have : (x 0).val < 1 := (x 0).isLt; omega
  have e0 : ((Rect.unit (s := S80x128) off S1x16.size inb).emb x 0).val = j := by show off 0 + 1 * (x 0).val = j; omega
  have e1 : ((Rect.unit (s := S80x128) off S1x16.size inb).emb x 1).val = c + ((Shape.reshapeEquiv shapeCasts_S1x1x16_S16 (Shape.reshapeEquiv shapeCasts_S16_S1x16 x)) 2).val := by
    show off 1 + 1 * (x 1).val = _; omega
  unfold meansOf meanOf
  simp only
  rw [← h0 _ _ rfl e0 e1, ← h1 _ _ rfl e0 e1, ← h2 _ _ rfl e0 e1, ← h3 _ _ rfl e0 e1, ← h4 _ _ rfl e0 e1, ← h5 _ _ rfl e0 e1,
    ← h6 _ _ rfl e0 e1, ← h7 _ _ rfl e0 e1]
  rfl

/-- Piece `p` of a store list is the sixteen lanes from `c` on of row `j`, holding the means there. -/
def RowPiece (G : S8x80x128.Idx → F .f32) (j : ℕ) (p : View.Piece (Elt F) S80x128 .f32) (c : ℕ) : Prop :=
  (∀ x, p.2 x = meansOf G (p.1.emb x)) ∧ ∀ y : S80x128.Idx, y ∈ p.1.set ↔ (y 0).val = j ∧ c ≤ (y 1).val ∧ (y 1).val < c + 16

/-- A store of the eight neighbours' means is such a piece. -/
theorem rowPiece {G : S8x80x128.Idx → F .f32} {j c : ℕ} {a0 a1 a2 a3 a4 a5 a6 a7 : Vec F S1x1x16 .f32}
    (h0 : Lanes G j c 0 a0) (h1 : Lanes G j c 1 a1) (h2 : Lanes G j c 2 a2) (h3 : Lanes G j c 3 a3)
    (h4 : Lanes G j c 4 a4) (h5 : Lanes G j c 5 a5) (h6 : Lanes G j c 6 a6) (h7 : Lanes G j c 7 a7)
    {off : Fin 2 → ℕ} (inb : ∀ a, off a + S1x16.size a ≤ S80x128.size a) (hj : off 0 = j) (hc : off 1 = c) :
    RowPiece G j ⟨Rect.unit (s := S80x128) off S1x16.size inb, meanVec a0 a1 a2 a3 a4 a5 a6 a7⟩ c := by
  refine ⟨lanes_mean h0 h1 h2 h3 h4 h5 h6 h7 inb hj hc, fun y => ?_⟩
  rw [Rect.mem_set_unit]
  have hy : ∀ a : Fin 2, a = 0 ∨ a = 1 := by decide
  constructor
  · intro h
    have h0 := h 0
    have h1 := h 1
    change off 0 ≤ (y 0).val ∧ (y 0).val < off 0 + 1 at h0
    change off 1 ≤ (y 1).val ∧ (y 1).val < off 1 + 16 at h1
    omega
  · rintro ⟨h0, h1, h2⟩ a
    rcases hy a with rfl | rfl
    · change off 0 ≤ (y 0).val ∧ (y 0).val < off 0 + 1; omega
    · change off 1 ≤ (y 1).val ∧ (y 1).val < off 1 + 16; omega

/-- After the row's eight stores, the rows up to and with `j` hold their means, when the rows before `j` did. -/
theorem row_written (G : S8x80x128.Idx → F .f32) (g : meanM.view.ty.Contents (Elt F)) (j : ℕ) (hg : ∀ y : S80x128.Idx, (y 0).val < j → g y = meansOf G y)
    (L : List (View.Piece (Elt F) S80x128 .f32)) (hL : List.Forall₂ (RowPiece G j) L [112, 96, 80, 64, 48, 32, 16, 0])
    (y : S80x128.Idx) (hy : (y 0).val < j + 1) : meanM.view.writes (Elt F) g L y = meansOf G y := by
  have hgood : ∀ p ∈ L, ∃ c, RowPiece G j p c := fun p hp => by
    obtain ⟨i, hi, rfl⟩ := List.getElem_of_mem hp
    exact ⟨_, hL.get hi (hL.length_eq ▸ hi)⟩
  change View.read (Elt F) meanM.view (meanM.view.writes (Elt F) g L) y = _
  by_cases hrow : (y 0).val = j
  · refine View.read_writes_apply_of_pieces _ _ (meansOf G) L (fun p hp => (hgood p hp).choose_spec.1) y ?_
    have h1 : (y 1).val < 128 := (y 1).isLt
    obtain ⟨n, hn, hn0, hn1⟩ : ∃ n, ∃ hn : n < 8, [112, 96, 80, 64, 48, 32, 16, 0][n] ≤ (y 1).val ∧ (y 1).val < [112, 96, 80, 64, 48, 32, 16, 0][n] + 16 :=
      by
        obtain ⟨q, hq⟩ : ∃ q, q = (y 1).val / 16 := ⟨_, rfl⟩
        have hq8 : q < 8 := by omega
        refine ⟨7 - q, by omega, ?_⟩
        interval_cases q <;> constructor <;> simp <;> omega
    have hn' : n < L.length := hL.length_eq ▸ hn
    exact ⟨L[n], List.getElem_mem hn', ((hL.get hn' hn).2 y).mpr ⟨hrow, hn0, hn1⟩⟩
  · refine (View.read_writes_apply_of_forall_not_mem _ _ y L fun p hp hm => ?_).trans (hg y (by omega))
    obtain ⟨c, -, hc⟩ := hgood p hp
    exact hrow ((hc y).mp hm).1

/-- One trip of the inner loop: with the rows before `j` of the means' buffer already the chunk's means, row `j` comes to hold its
    means; the gathered rows are only read. -/
theorem rowTrip (d : Dev nD) (L : grid0.Coords) (j : Fin k0_t2_loop.trips) (G : Buf (Elt F) ((thr d L).loc cc0_scratch1))
    (g : Buf (Elt F) ((thr d L).loc cc0_scratch2)) (hg : ∀ y : S80x128.Idx, (y 0).val < j.val → g y = meansOf G y) :
    iprop(((thr d L).loc cc0_scratch1 ↦{fullShare} G) ∗ ((thr d L).loc cc0_scratch2 ↦{fullShare} g))
      ⊢ (wp frame (wpE defs₀ 𝒱₀ (thr d L) none) Set.univ (rowBody (F := F) L j ⟨⟩)
          fun _ => iprop(((thr d L).loc cc0_scratch1 ↦{fullShare} G)
            ∗ ∃ g', ⌜∀ y : S80x128.Idx, (y 0).val < j.val + 1 → g' y = meansOf G y⌝ ∗ ((thr d L).loc cc0_scratch2 ↦{fullShare} g')) : sProp 𝕄) := by
  unfold rowBody k0_t2_body
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  iintro ⟨HG, Hg⟩
  ihave HG' := (show ((thr d L).loc cc0_scratch1 ↦{fullShare} G) ⊢ (rowsM.view.loc (thr d L) ↦{fullShare} G : sProp 𝕄) from .rfl) $$ HG
  ihave Hg' := (show ((thr d L).loc cc0_scratch2 ↦{fullShare} g) ⊢ (meanM.view.loc (thr d L) ↦{fullShare} g : sProp 𝕄) from .rfl) $$ Hg
  sl_exec
  sl_step
  isplitl [HG']; · iexact HG'
  iexists _
  isplitr
  rotate_left
  · iexact Hg'
  · ipureintro
    refine row_written G g j.val hg _ ?_
    simp only [k0_pay1, k0_pay3, k0_pay4, k0_pay5, k0_pay6, k0_pay7, k0_pay8, k0_pay9, k0_pay10, k0_pay11, k0_pay12, k0_pay13, k0_pay14,
      k0_pay15, k0_pay16, k0_pay17, k0_pay18]
    refine .cons ?_ (.cons ?_ (.cons ?_ (.cons ?_ (.cons ?_ (.cons ?_ (.cons ?_ (.cons ?_ .nil)))))))
    all_goals
      refine rowPiece ?_ ?_ ?_ ?_ ?_ ?_ ?_ ?_ _ (row_word j) rfl
      all_goals exact lanes_load G _ rfl (row_word j) rfl

/-- THE INNER LOOP: from the gathered rows `G`, all eighty rows of the means' buffer come to hold the means of `G`. -/
theorem rowLoop (d : Dev nD) (L : grid0.Coords) (G : Buf (Elt F) ((thr d L).loc cc0_scratch1)) (g : Buf (Elt F) ((thr d L).loc cc0_scratch2))
    {β : Type} {kk : Unit → Prog (TpuEff nD τ sig (Elt F) Λ₀ (thr d L).2) β} {Q : β → sProp 𝕄} :
    iprop(((thr d L).loc cc0_scratch1 ↦{fullShare} G) ∗ ((thr d L).loc cc0_scratch2 ↦{fullShare} g))
      ⊢ iprop((iprop(((thr d L).loc cc0_scratch1 ↦{fullShare} G) ∗ ((thr d L).loc cc0_scratch2 ↦{fullShare} meansOf G))
            -∗ wp frame (wpE defs₀ 𝒱₀ (thr d L) none) Set.univ (kk ⟨⟩) Q)
          -∗ wp frame (wpE defs₀ 𝒱₀ (thr d L) none) Set.univ (Scf.Loop.for k0_t2_loop k0_t2_ok ⟨⟩ (rowBody (F := F) L) >>= kk) Q) := by
  have htrips : k0_t2_loop.trips = 80 := by decide +kernel
  iintro ⟨HG, Hg⟩ Hk
  iapply (Scf.wp_for_bind frame (wpE defs₀ 𝒱₀ (thr d L) none) Set.univ _ _ _ k0_t2_ok _ (rowBody (F := F) L)
    (fun j _ => iprop(((thr d L).loc cc0_scratch1 ↦{fullShare} G)
      ∗ ∃ g', ⌜∀ y : S80x128.Idx, (y 0).val < j → g' y = meansOf G y⌝ ∗ ((thr d L).loc cc0_scratch2 ↦{fullShare} g')))
    (fun j _ => by
      iintro ⟨HG, %g', %hg', Hg⟩
      iapply (rowTrip d L j G g' hg')
      isplitl [HG] <;> iassumption)) $$ [HG Hg]
  · isplitl [HG]; · iexact HG
    iexists g
    isplitr; · ipureintro; exact fun y hy => absurd hy (Nat.not_lt_zero _)
    iexact Hg
  iintro %_ ⟨HG, %g', %hg', Hg⟩
  iapply Hk
  isplitl [HG]; · iexact HG
  have he : g' = meansOf G := funext fun y => hg' y (lt_of_lt_of_eq (show (y 0).val < 80 from (y 0).isLt) htrips.symm)
  subst he
  iexact Hg

end Cert.GatherMean

end
-- ==== Proof.Fetch.lean ====
/- The pieces a trip of the chunk loop addresses, and its first part: fetching the chunk's eight rows of indices. -/
module

public import proofs.«01_k».proof.Proof.RowLoop

@[expose] public section

noncomputable section

namespace Cert.GatherMean

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces -/

theorem idx_inb (k : Fin 8) : ∀ a, (![k.val, 0] : Fin 2 → ℕ) a + S1x80.size a ≤ S8x80.size a := by revert k; decide

theorem rows_inb (k : Fin 8) : ∀ a, (![k.val, 0, 0] : Fin 3 → ℕ) a + S1x80x128.size a ≤ S8x80x128.size a := by revert k; decide

/-- Row `k` of the index buffer, block `k` of the rows' buffer, and the whole of the table, as a tile addresses them. -/
abbrev idxRow (k : Fin 8) : Memref sig .scVector .vmem S80 .i32 :=
  (idxM.slice (Rect.unit (s := S8x80) ![k.val, 0] S1x80.size (idx_inb k)) (fun _ => rfl)).squeeze S80 squeezes_S1x80_S80
abbrev rowsBlk (k : Fin 8) : Memref sig .scVector .vmem S80x128 .f32 :=
  (rowsM.slice (Rect.unit (s := S8x80x128) ![k.val, 0, 0] S1x80x128.size (rows_inb k)) (fun _ => rfl)).squeeze S80x128 squeezes_S1x80x128_S80x128
abbrev featAll : Memref sig .scVector .hbm S100000x128 .f32 :=
  featM.slice (Rect.unit (s := S100000x128) ![0, 0] S100000x128.size inb_S100000x128_S100000x128_0_0) (fun _ => rfl)
/-- Trip `t`'s stretch of the flat list for neighbour `k`, and trip `t`'s rows of the result. -/
abbrev listChunk (L : grid0.Coords) (t : Fin (k0_t1_loop L).trips) (k : Fin 8) : Memref sig .scVector .hbm S80 .i32 :=
  listM.slice (Rect.unit (s := S400000) (k0_off1 L t (BitVec.ofNat 32 (50000 * k.val))) S80.size (k0_off1_inb L t k)) (fun _ => rfl)
abbrev outChunk (L : grid0.Coords) (t : Fin (k0_t1_loop L).trips) : Memref sig .scVector .hbm S80x128 .f32 :=
  outM.slice (Rect.unit (s := S50000x128) (k0_off74 L t) S80x128.size (k0_off74_inb L t)) (fun _ => rfl)

/-- Coordinates of a place of the index buffer and of the rows' buffer. -/
abbrev idxAt (k : Fin 8) (j : Fin 80) : S8x80.Idx := fun a => match a with
  | 0 => k
  | 1 => j
abbrev rowAt (k : Fin 8) (j : Fin 80) (c : Fin 128) : S8x80x128.Idx := fun a => match a with
  | 0 => k
  | 1 => j
  | 2 => c

theorem idxRow_emb (k : Fin 8) (x : S80.Idx) : (idxRow k).view.emb x = idxAt k (x 0) := by
  change (Rect.unit (s := S8x80) ![k.val, 0] S1x80.size (idx_inb k)).emb (Shape.reshapeEquiv squeezes_S1x80_S80.numel_eq x) = _
  rw [Shape.reshapeEquiv_cons_one squeezes_S1x80_S80.numel_eq x]
  funext a
  apply Fin.ext
  match a with
  | 0 => show k.val + 1 * 0 = k.val; omega
  | 1 => show 0 + 1 * (x 0).val = (x 0).val; omega

theorem rowsBlk_emb (k : Fin 8) (x : S80x128.Idx) : (rowsBlk k).view.emb x = rowAt k (x 0) (x 1) := by
  change (Rect.unit (s := S8x80x128) ![k.val, 0, 0] S1x80x128.size (rows_inb k)).emb (Shape.reshapeEquiv squeezes_S1x80x128_S80x128.numel_eq x) = _
  rw [Shape.reshapeEquiv_cons_one squeezes_S1x80x128_S80x128.numel_eq x]
  funext a
  apply Fin.ext
  match a with
  | 0 => show k.val + 1 * 0 = k.val; omega
  | 1 => show 0 + 1 * (x 0).val = (x 0).val; omega
  | 2 => show 0 + 1 * (x 1).val = (x 1).val; omega

theorem mem_idxRow (k : Fin 8) (y : S8x80.Idx) : y ∈ (idxRow k).view.set ↔ y 0 = k := by
  constructor
  · intro h
    obtain ⟨x, -, rfl⟩ := Finset.mem_map.mp h
    rw [idxRow_emb]
  · intro h
    have he : (idxRow k).view.emb (fun a => match a with | 0 => y 1) = y := by
      refine (idxRow_emb k _).trans (funext fun a => ?_)
      match a with
      | 0 => exact h.symm
      | 1 => rfl
    exact he ▸ View.emb_mem_set (idxRow k).view _

theorem mem_rowsBlk (k : Fin 8) (y : S8x80x128.Idx) : y ∈ (rowsBlk k).view.set ↔ y 0 = k := by
  constructor
  · intro h
    obtain ⟨x, -, rfl⟩ := Finset.mem_map.mp h
    rw [rowsBlk_emb]
  · intro h
    have he : (rowsBlk k).view.emb (fun a => match a with | 0 => y 1 | 1 => y 2) = y := by
      refine (rowsBlk_emb k _).trans (funext fun a => ?_)
      match a with
      | 0 => exact h.symm
      | 1 => rfl
      | 2 => rfl
    exact he ▸ View.emb_mem_set (rowsBlk k).view _

/-- The index buffer is its eight rows, and the rows' buffer its eight blocks. -/
theorem idx_rows (d : Dev nD) (L : grid0.Coords) (f : Buf (Elt F) ((thr d L).loc cc0_scratch0)) :
    ((thr d L).loc cc0_scratch0 ↦{fullShare} f : sProp 𝕄)
      = bigSep Finset.univ fun k : Fin 8 => (thr d L).loc cc0_scratch0 ↦[(idxRow k).view.set]{fullShare} f := by
  rw [← pointsTo_biUnion Finset.univ (ℓ := (thr d L).loc cc0_scratch0) (fun k => (idxRow k).view.set)
    (fun k _ k' _ h => Finset.disjoint_left.mpr fun y hy hy' => h (((mem_idxRow k y).mp hy).symm.trans ((mem_idxRow k' y).mp hy')))]
  rw [show (Finset.univ.biUnion fun k : Fin 8 => (idxRow k).view.set) = Finset.univ from
    Finset.eq_univ_of_forall fun y => Finset.mem_biUnion.mpr ⟨y 0, Finset.mem_univ _, (mem_idxRow _ y).mpr rfl⟩]

theorem rows_blocks (d : Dev nD) (L : grid0.Coords) (f : Buf (Elt F) ((thr d L).loc cc0_scratch1)) :
    ((thr d L).loc cc0_scratch1 ↦{fullShare} f : sProp 𝕄)
      = bigSep Finset.univ fun k : Fin 8 => (thr d L).loc cc0_scratch1 ↦[(rowsBlk k).view.set]{fullShare} f := by
  rw [← pointsTo_biUnion Finset.univ (ℓ := (thr d L).loc cc0_scratch1) (fun k => (rowsBlk k).view.set)
    (fun k _ k' _ h => Finset.disjoint_left.mpr fun y hy hy' => h (((mem_rowsBlk k y).mp hy).symm.trans ((mem_rowsBlk k' y).mp hy')))]
  rw [show (Finset.univ.biUnion fun k : Fin 8 => (rowsBlk k).view.set) = Finset.univ from
    Finset.eq_univ_of_forall fun y => Finset.mem_biUnion.mpr ⟨y 0, Finset.mem_univ _, (mem_rowsBlk _ y).mpr rfl⟩]

/-! ## Fetching a row of indices -/

/-- Result row `80 c + j`, for `c` the chunk of trip `t`. -/
def outRow (L : grid0.Coords) (t : Fin (k0_t1_loop L).trips) (j : Fin 80) : Fin 50000 :=
  ⟨chunk L t.val * 80 + j.val, by have := chunk_lt L t; omega⟩

/-- What the index buffer holds after trip `t`'s fetches: for neighbour `k` of the chunk's row `j`, the flat list's word. -/
def chunkIdx (list : S400000.Idx → BitVec 32) (L : grid0.Coords) (t : Fin (k0_t1_loop L).trips) : S8x80.Idx → BitVec 32 :=
  fun y => list (listAt (y 0) (outRow L t (y 1)))

variable [FloatOps F]

/-- The copy of neighbour `k`'s indices for trip `t`, and the wait for it, on the semaphore `sem`. -/
def fetch (L : grid0.Coords) (t : Fin (k0_t1_loop L).trips) (k : Fin 8) (sem : DmaSems sig S_) :
    Prog (TpuEff nD τ sig (Elt F) Λ₀ (.scVector ((L 0).castLE hcore0) ((L 1).castLE hsub0))) PUnit := do
  Prog.lift (.enqueueDma (listChunk L t k) (.here (idxRow k)) (.dma sem.sem) (View.wordExact_bits rfl) ((View.wordExact_bits rfl).reshape _ _) ⟨Or.inl rfl, trivial⟩)
  Prog.lift (.waitDma2 sem.sem (listChunk L t k) (idxRow k) (View.wordExact_bits rfl) ((View.wordExact_bits rfl).reshape _ _))

/-- What lands in row `k` of the index buffer is that row of `chunkIdx`. -/
theorem fetched (L : grid0.Coords) (t : Fin (k0_t1_loop L).trips) (k : Fin 8) (list : S400000.Idx → BitVec 32) (x : S80.Idx) :
    list ((listChunk L t k).view.emb x) = chunkIdx list L t ((idxRow k).view.emb x) := by
  rw [idxRow_emb]
  unfold chunkIdx
  refine congrArg list (funext fun a => Fin.ext ?_)
  match a with
  | 0 =>
    show (k0_off1 L t (BitVec.ofNat 32 (50000 * k.val))) 0 + 1 * (x 0).val = 50000 * k.val + (chunk L t.val * 80 + (x 0).val)
    rw [list_offset]
    show 50000 * k.val + chunk L t.val * 80 + 1 * (x 0).val = _
    omega

/-- THE FETCH: with a share of the flat list, row `k` of the index buffer and the semaphore at zero, the copy and its wait leave
    that row holding the indices of neighbour `k` for trip `t`, and the wait recorded. -/
theorem wp_fetch (d : Dev nD) (L : grid0.Coords) (t : Fin (k0_t1_loop L).trips) (k : Fin 8) (sem : DmaSems sig S_)
    (q : PosShare TreeShare) (list : Buf (Elt F) (listLoc d)) (f : Buf (Elt F) ((thr d L).loc cc0_scratch0))
    (O : CellTallies nD τ sig (HIx 1)) (W : Waits sig (HIx 1))
    {β : Type} {kk : PUnit → Prog (TpuEff nD τ sig (Elt F) Λ₀ (thr d L).2) β} {Q : β → sProp 𝕄} :
    iprop((listLoc d ↦{q} list) ∗ ((thr d L).loc cc0_scratch0 ↦[(idxRow k).view.set]{fullShare} f) ∗ semVal ((thr d L), .dma sem.sem) 0
        ∗ Transfers.MayWaits (thr d L) (none : HIx 1) O ∗ owes (thr d L) O W)
      ⊢ iprop((iprop((listLoc d ↦{q} list) ∗ ((thr d L).loc cc0_scratch0 ↦[(idxRow k).view.set]{fullShare} chunkIdx list L t)
              ∗ semVal ((thr d L), .dma sem.sem) 0 ∗ owes (thr d L) O (insert (SemLoc.dma sem.sem, none) W))
            -∗ wp frame (wpE defs₀ 𝒱₀ (thr d L) none) Set.univ (kk ⟨⟩) Q)
          -∗ wp frame (wpE defs₀ 𝒱₀ (thr d L) none) Set.univ (fetch (F := F) L t k sem >>= kk) Q) := by
  iintro ⟨Hl, Hi, Hs, Hmw, HO⟩ Hk
  ihave Hl := (pointsTo_split_subset (q := q) (f := list) (S := Finset.univ) (Finset.subset_univ (listChunk L t k).view.set)).1 $$ Hl
  icases Hl with ⟨Hl, Hrest⟩
  unfold fetch
  iapply (Transfers.wp_dmaLocal countersEmb 𝒱₀ (thr d L) none (none : HIx 1) (View.amount (idxRow k).view (.dma sem.sem)) rfl
    (View.amount_pos _ _ (show 0 < S80.numel by decide)) subset_rfl) $$ [Hl Hi Hs]
  · isplitl [Hl]; · iexact Hl
    isplitl [Hi]; · iexact Hi
    iexact Hs
  iintro Hfl
  iapply (Transfers.wp_waitLocalO countersEmb 𝒱₀ (thr d L) none (none : HIx 1) rfl) $$ [Hfl HO Hmw]
  · isplitl [Hfl]; · iexact Hfl
    isplitl [HO]; · iexact HO
    iapply (Transfers.MayWaits.elim (SemLoc.dma sem.sem)) $$ Hmw
  iintro ⟨⟨Hi, Hl⟩, Hs, HO⟩
  iapply Hk
  isplitl [Hl Hrest]
  · iapply (pointsTo_split_subset (q := q) (f := list) (S := Finset.univ) (Finset.subset_univ (listChunk L t k).view.set)).2
    isplitl [Hl] <;> iassumption
  isplitl [Hi]
  · iapply (Entails.of_eq (pointsTo_congr fun y hy => by
      obtain ⟨x, -, rfl⟩ := Finset.mem_map.mp hy
      rw [View.write_emb_of_mem _ _ (Finset.mem_univ x)]
      exact fetched L t k list x)) $$ Hi
  isplitl [Hs] <;> iassumption

end Cert.GatherMean

end
-- ==== Proof.Gather.lean ====
/- The second part of a trip: the eight gathers, all in flight at once on one semaphore, and the eight waits for them.

   The 640 rows the eight gathers fetch are one batch on the semaphore. No wait but the last tells which rows have come; after the
   last all have, and every block of the rows' buffer holds the table's rows its list names. -/
module

public import proofs.«01_k».proof.Proof.Fetch

@[expose] public section

noncomputable section

namespace Cert.GatherMean

open Cert.KernelIdeal Cert.KernelIdeal.Gen Cert.Gathered

open Idealize.ShloMosaic
open Idealize.ShloMosaic.SparseCore (S V T gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the gathers leave -/

/-- The rows the words of `I` name: block `k`, row `j` is the table's row named by word `[k, j]`. -/
def gathered (feat : S100000x128.Idx → F .f32) (I : S8x80.Idx → BitVec 32) : S8x80x128.Idx → F .f32 :=
  fun z => feat (featAt (rowOfWord (I (idxAt (z 0) (z 1)))) (z 2))

/-- Every word of `I` is a row of the table. -/
def RowWords (I : S8x80.Idx → BitVec 32) : Prop := ∀ y, (I y).toNat < 100000

theorem featAll_emb (x : S100000x128.Idx) : featAll.view.emb x = x := by
  funext a
  apply Fin.ext
  match a with
  | 0 => show 0 + 1 * (x 0).val = (x 0).val; omega
  | 1 => show 0 + 1 * (x 1).val = (x 1).val; omega

theorem featAll_set : featAll.view.set = Finset.univ :=
  Finset.eq_univ_of_forall fun x => featAll_emb x ▸ View.emb_mem_set featAll.view x

/-- The words of neighbour `k`'s row are rows of the table. -/
theorem words_lt {I : S8x80.Idx → BitVec 32} (hI : RowWords I) (k : Fin 8) :
    ∀ x, ((idxRow k).view.read (Elt F) I x).toNat < S100000x128.size gathers_S100000x128_S80x128.axis := fun _ => hI _

/-- Entry `j` of a one-axis list is its place `j`. -/
theorem list_place (j : Fin 80) : S80.rowMajor.symm (j.cast rfl) = fun a => match a with | 0 => j :=
  funext fun a => Fin.ext (by
    have h : ∀ j : Fin 80, (S80.rowMajor.symm (j.cast rfl) 0).val = j.val := by decide +kernel
    match a with
    | 0 => exact h j)

/-- The written block is the gathered rows' block. -/
theorem block_written (feat : S100000x128.Idx → F .f32) {I : S8x80.Idx → BitVec 32} (hI : RowWords I) (k : Fin 8)
    (fr : rowsM.view.ty.Contents (Elt F)) (y : S8x80x128.Idx) (hy : y ∈ (rowsBlk k).view.set) :
    (rowsBlk k).view.write (Elt F) fr (gatherPayload (F := F) gathers_S100000x128_S80x128 (featAll.view.read (Elt F) feat)
      (SparseCore.rows ((idxRow k).view.read (Elt F) I) rfl (words_lt (F := F) hI k))) Finset.univ y = gathered feat I y := by
  obtain ⟨x, -, rfl⟩ := Finset.mem_map.mp hy
  rw [View.write_emb_of_mem _ _ (Finset.mem_univ x), rowsBlk_emb]
  show feat (featAll.view.emb (gathers_S100000x128_S80x128.idx _ x)) = feat (featAt (rowOfWord (I (idxAt k (x 0)))) (x 1))
  rw [featAll_emb]
  refine congrArg feat (funext fun a => Fin.ext ?_)
  match a with
  | 0 =>
    refine (congrArg Fin.val (Shape.Gathers.idx_axis gathers_S100000x128_S80x128 _ x)).trans ?_
    show (I ((idxRow k).view.emb (S80.rowMajor.symm ((x 0).cast rfl)))).toNat = (I (idxAt k (x 0))).toNat % 100000
    have e : I ((idxRow k).view.emb (S80.rowMajor.symm ((x 0).cast rfl))) = I (idxAt k (x 0)) :=
      (congrArg I (idxRow_emb k _)).trans (congrArg (fun j : Fin 80 => I (idxAt k j)) (congrFun (list_place (x 0)) 0))
    rw [e, Nat.mod_eq_of_lt (hI _)]
  | 1 => exact Shape.Gathers.idx_of_ne gathers_S100000x128_S80x128 _ x 1 (by decide)

/-! ## The batch -/

/-- The units one row of a gather puts on the semaphore. -/
def rowCredit : ℕ := sig.dmaCredit .scVector (Kind.table .scVector .vmem) rowsM.view.buf (S80x128.rowShape 0) .f32

theorem rowCredit_pos : 0 < rowCredit := sig.dmaCredit_pos _ _ _ _ _ (by decide)

theorem block_credit (k : Fin 8) : (rowsBlk k).view.dmaCredit = 80 * rowCredit := by revert k; decide +kernel

section Batch

variable (d : Dev nD) (L : grid0.Coords) (q : PosShare TreeShare) (feat : Buf (Elt F) (featLoc d))
  {I : S8x80.Idx → BitVec 32} (hI : RowWords I) (fr : Buf (Elt F) ((thr d L).loc cc0_scratch1))

/-- Row `j` of gather `k`, delivered. -/
def Got (k : Fin 8) (j : Fin 80) : sProp 𝕄 :=
  RowGot (thr d L) featAll (rowsBlk k) gathers_S100000x128_S80x128 (idxRow k) rfl (pieceOf q 8 (by decide) k) fullShare feat fr I
    (show 0 < S80x128.numel by decide) (words_lt (F := F) hI k) j

instance got_storable (k : Fin 8) (j : Fin 80) : Storable (upEmb : UEmb _ 𝕄) (Got d L q feat hI fr k j) := by
  unfold Got; exact rowGot_storable ..

/-- Transfer `n` of the batch is row `n mod 80` of gather `n / 80`. -/
def Delivered (n : Fin 640) : sProp 𝕄 := Got d L q feat hI fr ⟨n.val / 80, by omega⟩ ⟨n.val % 80, by omega⟩

instance delivered_storable (n : Fin 640) : Storable (upEmb : UEmb _ 𝕄) (Delivered d L q feat hI fr n) := by
  unfold Delivered; infer_instance

theorem delivered_at (k : Fin 8) (j : Fin 80) (h : k.val * 80 + j.val < 640) :
    Delivered d L q feat hI fr ⟨k.val * 80 + j.val, h⟩ = Got d L q feat hI fr k j := by
  unfold Delivered
  congr 1
  · exact Fin.ext (show (k.val * 80 + j.val) / 80 = k.val by omega)
  · exact Fin.ext (show (k.val * 80 + j.val) % 80 = j.val by omega)

/-- The whole batch is the eight gathers' rows. -/
theorem delivered_all :
    bigSep Finset.univ (Delivered d L q feat hI fr) = bigSep Finset.univ fun k : Fin 8 => bigSep Finset.univ (Got d L q feat hI fr k) := by
  rw [bigSep_univ_equiv (finProdFinEquiv (m := 8) (n := 80)) (Delivered d L q feat hI fr), bigSep_univ_prod]
  refine bigSep_congr fun k _ => bigSep_congr fun j _ => ?_
  rw [← delivered_at d L q feat hI fr k j (by omega)]
  congr 1
  apply Fin.ext
  show j.val + 80 * k.val = k.val * 80 + j.val
  omega

/-- The batch with `n` transfers issued and `u` units waited for. -/
abbrev BatchAt (n u : ℕ) : sProp 𝕄 :=
  Transfers.Batch countersEmb (thr d L) (.dma cc0_scratch3.sem) (none : HIx 1) rowCredit (Delivered d L q feat hI fr) n u

end Batch

variable [FloatOps F]

/-- The start of gather `k`, and the wait for it. -/
def issue (L : grid0.Coords) (k : Fin 8) : Prog (TpuEff nD τ sig (Elt F) Λ₀ (.scVector ((L 0).castLE hcore0) ((L 1).castLE hsub0))) PUnit :=
  SparseCore.enqueueIndirectGather rfl featAll (rowsBlk k) gathers_S100000x128_S80x128 (idxRow k) rfl cc0_scratch3.sem (View.wordExact_bits rfl) rfl (Or.inl rfl)
def await (L : grid0.Coords) (k : Fin 8) : Prog (TpuEff nD τ sig (Elt F) Λ₀ (.scVector ((L 0).castLE hcore0) ((L 1).castLE hsub0))) PUnit :=
  SparseCore.waitIndirectGather cc0_scratch3.sem featAll (rowsBlk k) (View.wordExact_bits rfl) ((View.wordExact_bits rfl).reshape _ _)

section Steps

variable (d : Dev nD) (L : grid0.Coords) (q : PosShare TreeShare) (feat : Buf (Elt F) (featLoc d))
  {I : S8x80.Idx → BitVec 32} (hI : RowWords I) (fr : Buf (Elt F) ((thr d L).loc cc0_scratch1))

/-- What gather `k` takes along: a piece of the table's share, its block of the rows' buffer, its row of indices. -/
abbrev Lent (k : Fin 8) : sProp 𝕄 :=
  iprop((featLoc d ↦[featAll.view.set]{pieceOf q 8 (by decide) k} feat) ∗ ((thr d L).loc cc0_scratch1 ↦[(rowsBlk k).view.set]{fullShare} fr)
    ∗ ((thr d L).loc cc0_scratch0 ↦[(idxRow k).view.set]{fullShare} I))

theorem wp_issue (k : Fin 8) {n n' : ℕ} (hn : n = k.val * 80) (hn' : n' = k.val * 80 + 80)
    {β : Type} {kk : PUnit → Prog (TpuEff nD τ sig (Elt F) Λ₀ (thr d L).2) β} {Q : β → sProp 𝕄} :
    iprop(Lent d L q feat (I := I) fr k ∗ BatchAt d L q feat hI fr n 0)
      ⊢ iprop((BatchAt d L q feat hI fr n' 0 -∗ wp frame (wpE defs₀ 𝒱₀ (thr d L) none) Set.univ (kk ⟨⟩) Q)
          -∗ wp frame (wpE defs₀ 𝒱₀ (thr d L) none) Set.univ (issue (F := F) L k >>= kk) Q) := by
  subst hn; subst hn'
  iintro ⟨⟨Hf, Hr, Hi⟩, HB⟩ Hk
  unfold issue
  iapply (wp_gatherRows countersEmb 𝒱₀ (thr d L) none (none : HIx 1) rowCredit (Nat.zero_le _) (show k.val * 80 + 80 ≤ 640 by omega) (fun _ => rfl)
    (show 0 < S80x128.numel by decide) (words_lt (F := F) hI k) (fun j => Entails.of_eq (delivered_at d L q feat hI fr k j _).symm)) $$ [Hf Hr Hi HB]
  · isplitl [Hf]; · iexact Hf
    isplitl [Hr]; · iexact Hr
    isplitl [Hi]; · iexact Hi
    iexact HB
  iintro HB
  iapply Hk
  iexact HB

theorem wp_await (k : Fin 8) (O : CellTallies nD τ sig (HIx 1)) (W : Waits sig (HIx 1)) {u u' : ℕ} (hu' : u' = u + 80) (hu : u' ≤ 640)
    {β : Type} {kk : PUnit → Prog (TpuEff nD τ sig (Elt F) Λ₀ (thr d L).2) β} {Q : β → sProp 𝕄} :
    iprop(BatchAt d L q feat hI fr 640 (u * rowCredit) ∗ Transfers.MayWaits (thr d L) (none : HIx 1) O ∗ owes (thr d L) O W)
      ⊢ iprop((iprop(BatchAt d L q feat hI fr 640 (u' * rowCredit) ∗ owes (thr d L) O (insert (SemLoc.dma cc0_scratch3.sem, none) W))
            -∗ wp frame (wpE defs₀ 𝒱₀ (thr d L) none) Set.univ (kk ⟨⟩) Q)
          -∗ wp frame (wpE defs₀ 𝒱₀ (thr d L) none) Set.univ (await (F := F) L k >>= kk) Q) := by
  subst hu'
  rw [Nat.add_mul u 80]
  iintro ⟨HB, Hmw, HO⟩ Hk
  unfold await
  iapply (Transfers.wp_waitBatchMulO countersEmb 𝒱₀ (thr d L) none (none : HIx 1) 80 (block_credit k)
    (D := Delivered d L q feat hI fr) (j := 640) (u := u * rowCredit)
    (le_of_eq_of_le ((Nat.add_mul u 80 rowCredit).symm.trans (Nat.mul_comm _ _)) (Nat.mul_le_mul_left rowCredit hu))) $$ [HB HO Hmw]
  · isplitl [HB]; · iexact HB
    isplitl [HO]; · iexact HO
    iapply (Transfers.MayWaits.elim (SemLoc.dma cc0_scratch3.sem)) $$ Hmw
  iintro H
  iapply Hk
  iexact H

theorem wp_awaitLast (k : Fin 8) (O : CellTallies nD τ sig (HIx 1)) (W : Waits sig (HIx 1))
    {β : Type} {kk : PUnit → Prog (TpuEff nD τ sig (Elt F) Λ₀ (thr d L).2) β} {Q : β → sProp 𝕄} :
    iprop(BatchAt d L q feat hI fr 640 (560 * rowCredit) ∗ Transfers.MayWaits (thr d L) (none : HIx 1) O ∗ owes (thr d L) O W)
      ⊢ iprop((iprop(bigSep Finset.univ (Delivered d L q feat hI fr) ∗ semVal ((thr d L), .dma cc0_scratch3.sem) 0
              ∗ owes (thr d L) O (insert (SemLoc.dma cc0_scratch3.sem, none) W))
            -∗ wp frame (wpE defs₀ 𝒱₀ (thr d L) none) Set.univ (kk ⟨⟩) Q)
          -∗ wp frame (wpE defs₀ 𝒱₀ (thr d L) none) Set.univ (await (F := F) L k >>= kk) Q) := by
  iintro ⟨HB, Hmw, HO⟩ Hk
  unfold await
  iapply (Transfers.wp_waitBatchAllO countersEmb 𝒱₀ (thr d L) none (none : HIx 1) (block_credit k) rowCredit_pos
    (D := Delivered d L q feat hI fr) (u := 560 * rowCredit) ((Nat.add_mul 560 80 rowCredit).symm.trans (Nat.mul_comm _ _))) $$ [HB HO Hmw]
  · isplitl [HB]; · iexact HB
    isplitl [HO]; · iexact HO
    iapply (Transfers.MayWaits.elim (SemLoc.dma cc0_scratch3.sem)) $$ Hmw
  iintro H
  iapply Hk
  iexact H

/-- All rows delivered: the table's share, the gathered rows, and the indices. -/
theorem delivered_join :
    bigSep Finset.univ (Delivered d L q feat hI fr)
      ⊢ iprop((featLoc d ↦{q} feat) ∗ ((thr d L).loc cc0_scratch1 ↦{fullShare} gathered feat I) ∗ ((thr d L).loc cc0_scratch0 ↦{fullShare} I)) := by
  rw [delivered_all, pointsTo_piecesOf Finset.univ feat (show 0 < 8 by decide) q, rows_blocks, idx_rows, ← bigSep_sep', ← bigSep_sep']
  refine bigSep_mono fun k _ => ?_
  refine (rowsGot_join (thr d L) featAll (rowsBlk k) gathers_S100000x128_S80x128 (idxRow k) rfl (pieceOf q 8 (by decide) k) fullShare feat fr I
    (show 0 < S80x128.numel by decide) (words_lt (F := F) hI k)).trans ?_
  iintro ⟨Hr, Hf, Hi⟩
  isplitl [Hf]
  · rw [featAll_set]; iexact Hf
  isplitl [Hr]
  · have e := pointsTo_congr (Ix := HIx 1) (Name := ℕ) (U := UU) (Lvl := ℕ) (ℓ := (thr d L).loc cc0_scratch1) (q := fullShare) fun y hy => block_written feat hI k fr y hy
    rw [← e]; iexact Hr
  · iexact Hi

end Steps

end Cert.GatherMean

end
-- ==== Proof.Trip.lean ====
/- One trip of the chunk loop: the eight fetches, the eight gathers, the inner loop, and the copy of the means to the chunk's rows of
   the result. -/
module

public import proofs.«01_k».proof.Proof.Gather

@[expose] public section

noncomputable section

namespace Cert.GatherMean

open Cert.KernelIdeal Cert.KernelIdeal.Gen Cert.Gathered

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's rows of the result -/

/-- The rows of the result in the chunks of tile `L`. -/
def tileSet (L : grid0.Coords) : Finset S50000x128.Idx := Finset.univ.filter fun y => (y 0).val / 80 % 32 = wid L

theorem mem_tileSet {L : grid0.Coords} {y : S50000x128.Idx} : y ∈ tileSet L ↔ (y 0).val / 80 % 32 = wid L := by
  simp [tileSet]

theorem outChunk_emb (L : grid0.Coords) (t : Fin (k0_t1_loop L).trips) (x : S80x128.Idx) :
    (outChunk L t).view.emb x = fun a => match a with
      | 0 => outRow L t (x 0)
      | 1 => x 1 := by
  funext a
  apply Fin.ext
  match a with
  | 0 =>
    show (k0_off74 L t) 0 + 1 * (x 0).val = chunk L t.val * 80 + (x 0).val
    rw [out_offset]
    show chunk L t.val * 80 + 1 * (x 0).val = _
    omega
  | 1 =>
    show (k0_off74 L t) 1 + 1 * (x 1).val = (x 1).val
    rw [out_offset]
    show 0 + 1 * (x 1).val = _
    omega

/-- Trip `t` writes the rows of its chunk. -/
theorem mem_outChunk (L : grid0.Coords) (t : Fin (k0_t1_loop L).trips) (y : S50000x128.Idx) :
    y ∈ (outChunk L t).view.set ↔ (y 0).val / 80 = chunk L t.val := by
  constructor
  · intro h
    obtain ⟨x, -, rfl⟩ := Finset.mem_map.mp h
    rw [outChunk_emb]
    show (chunk L t.val * 80 + (x 0).val) / 80 = chunk L t.val
    have : (x 0).val < 80 := (x 0).isLt
    omega
  · intro h
    have he : (outChunk L t).view.emb (fun a => match a with
        | 0 => (⟨(y 0).val % 80, Nat.mod_lt _ (by decide)⟩ : Fin 80)
        | 1 => y 1) = y := by
      refine (outChunk_emb L t _).trans (funext fun a => Fin.ext ?_)
      match a with
      | 0 => show chunk L t.val * 80 + (y 0).val % 80 = (y 0).val; omega
      | 1 => rfl
    exact he ▸ View.emb_mem_set (outChunk L t).view _

theorem outChunk_subset (L : grid0.Coords) (t : Fin (k0_t1_loop L).trips) : (outChunk L t).view.set ⊆ tileSet L := fun y hy => by
  rw [mem_tileSet, (mem_outChunk L t y).mp hy]
  have := wid_lt L
  unfold chunk; omega

variable [FloatOps F]

/-- The result's rows in the tile's chunks before `c` are final. -/
def DoneBelow (feat : S100000x128.Idx → F .f32) (list : S400000.Idx → BitVec 32) (L : grid0.Coords) (c : ℕ) (f : S50000x128.Idx → F .f32) : Prop :=
  ∀ y ∈ tileSet L, (y 0).val / 80 < c → f y = meanRows feat list y

/-- With the chunks before trip `t`'s final, writing the means of what trip `t` gathered makes those before the next trip's final. -/
theorem doneBelow_step (feat : S100000x128.Idx → F .f32) (list : S400000.Idx → BitVec 32) (L : grid0.Coords) (t : Fin (k0_t1_loop L).trips)
    (f : (outChunk L t).view.ty.Contents (Elt F)) (hf : DoneBelow feat list L (chunk L t.val) f) :
    DoneBelow feat list L (chunk L (t.val + 1))
      ((outChunk L t).view.write (Elt F) f (meansOf (gathered feat (chunkIdx list L t))) Finset.univ) := by
  intro y hy hlt
  by_cases hm : y ∈ (outChunk L t).view.set
  · obtain ⟨x, -, rfl⟩ := Finset.mem_map.mp hm
    refine (View.write_emb_of_mem _ _ (Finset.mem_univ x)).trans ?_
    rw [outChunk_emb]
    rfl
  · refine (View.write_of_not_mem _ _ _ (by rwa [View.setOn_univ])).trans (hf y hy ?_)
    have h1 := mem_tileSet.mp hy
    have h2 := mt (mem_outChunk L t y).mpr hm
    have h3 := wid_lt L
    unfold chunk at hlt h2 ⊢
    omega

/-! ## The parts of a trip -/

/-- The eight fetches. -/
def fetchAll (L : grid0.Coords) (t : Fin (k0_t1_loop L).trips) :
    Prog (TpuEff nD τ sig (Elt F) Λ₀ (.scVector ((L 0).castLE hcore0) ((L 1).castLE hsub0))) PUnit := do
  fetch L t 0 cc0_scoped0
  fetch L t 1 cc0_scoped1
  fetch L t 2 cc0_scoped2
  fetch L t 3 cc0_scoped3
  fetch L t 4 cc0_scoped4
  fetch L t 5 cc0_scoped5
  fetch L t 6 cc0_scoped6
  fetch L t 7 cc0_scoped7
  pure ⟨⟩

/-- The eight gathers, and the eight waits. -/
def gatherAll (L : grid0.Coords) : Prog (TpuEff nD τ sig (Elt F) Λ₀ (.scVector ((L 0).castLE hcore0) ((L 1).castLE hsub0))) PUnit := do
  issue L 0
  issue L 1
  issue L 2
  issue L 3
  issue L 4
  issue L 5
  issue L 6
  issue L 7
  await L 0
  await L 1
  await L 2
  await L 3
  await L 4
  await L 5
  await L 6
  await L 7
  pure ⟨⟩

/-- The copy of the means to the chunk's rows of the result, and the wait for it. -/
def writeOut (L : grid0.Coords) (t : Fin (k0_t1_loop L).trips) :
    Prog (TpuEff nD τ sig (Elt F) Λ₀ (.scVector ((L 0).castLE hcore0) ((L 1).castLE hsub0))) PUnit := do
  Prog.lift (.enqueueDma meanM (.here (outChunk L t)) (.dma cc0_scratch4.sem) (Memref.isWhole_whole _).wordExact (View.wordExact_bits rfl) ⟨Or.inl rfl, trivial⟩)
  Prog.lift (.waitDma2 cc0_scratch4.sem meanM (outChunk L t) (Memref.isWhole_whole _).wordExact (View.wordExact_bits rfl))

/-- A trip of the chunk loop. -/
def chunkTrip (L : grid0.Coords) (t : Fin (k0_t1_loop L).trips) :
    Prog (TpuEff nD τ sig (Elt F) Λ₀ (.scVector ((L 0).castLE hcore0) ((L 1).castLE hsub0))) Unit := do
  fetchAll L t
  gatherAll L
  Scf.Loop.for k0_t2_loop k0_t2_ok ⟨⟩ (rowBody L)
  writeOut L t
  pure ⟨⟩

/-- The chunk loop's body at the kernel's operands. -/
abbrev chunkBody (L : grid0.Coords) (v : BitVec 32) :=
  k0_t1_body (F := F) L featM (Memref.isWhole_whole _) listM (Memref.isWhole_whole _) outM (Memref.isWhole_whole _) idxM (Memref.isWhole_whole _)
    rowsM (Memref.isWhole_whole _) meanM (Memref.isWhole_whole _) cc0_scratch3 cc0_scratch4 cc0_scoped0 cc0_scoped1 cc0_scoped2 cc0_scoped3
    cc0_scoped4 cc0_scoped5 cc0_scoped6 cc0_scoped7 cc0_scoped8 cc0_scoped9 cc0_scoped10 cc0_scoped11 cc0_scoped12 cc0_scoped13 cc0_scoped14 cc0_scoped15 v

set_option maxRecDepth 65536 in
/-- The loop's body is these parts one after the other. -/
theorem chunkBody_eq (L : grid0.Coords) (v : BitVec 32) (t : Fin (k0_t1_loop L).trips) (u : Unit) :
    chunkBody (F := F) L v t u = chunkTrip L t := rfl

/-! ## The parts run -/

omit [FloatOps F] in
/-- Eight pieces, one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

section Parts

variable (d : Dev nD) (L : grid0.Coords) (t : Fin (k0_t1_loop L).trips) (q q' : PosShare TreeShare)
  (feat : Buf (Elt F) (featLoc d)) (list : Buf (Elt F) (listLoc d)) (O : CellTallies nD τ sig (HIx 1)) (W : Waits sig (HIx 1))

/-- What the tile owes stays; what it has waited for grows by waits of no call's. -/
abbrev Owing : sProp 𝕄 := iprop(∃ W', ⌜∀ p ∈ W', p ∈ W ∨ p.2 = none⌝ ∗ owes (thr d L) O W')

/-- The semaphores of the eight fetches, at zero. -/
abbrev FetchSems : sProp 𝕄 :=
  iprop(semVal ((thr d L), .dma cc0_scoped0.sem) 0 ∗ semVal ((thr d L), .dma cc0_scoped1.sem) 0 ∗ semVal ((thr d L), .dma cc0_scoped2.sem) 0
    ∗ semVal ((thr d L), .dma cc0_scoped3.sem) 0 ∗ semVal ((thr d L), .dma cc0_scoped4.sem) 0 ∗ semVal ((thr d L), .dma cc0_scoped5.sem) 0
    ∗ semVal ((thr d L), .dma cc0_scoped6.sem) 0 ∗ semVal ((thr d L), .dma cc0_scoped7.sem) 0)

/-- The eight fetches leave the trip's indices in the index buffer. -/
theorem wp_fetchAll (f : Buf (Elt F) ((thr d L).loc cc0_scratch0))
    {β : Type} {kk : PUnit → Prog (TpuEff nD τ sig (Elt F) Λ₀ (thr d L).2) β} {Q : β → sProp 𝕄} :
    iprop(Transfers.MayWaits (thr d L) (none : HIx 1) O ∗ (listLoc d ↦{q} list) ∗ ((thr d L).loc cc0_scratch0 ↦{fullShare} f) ∗ FetchSems d L ∗ Owing d L O W)
      ⊢ iprop((iprop((listLoc d ↦{q} list) ∗ ((thr d L).loc cc0_scratch0 ↦{fullShare} chunkIdx list L t) ∗ FetchSems d L ∗ Owing d L O W)
            -∗ wp frame (wpE defs₀ 𝒱₀ (thr d L) none) Set.univ (kk ⟨⟩) Q)
          -∗ wp frame (wpE defs₀ 𝒱₀ (thr d L) none) Set.univ (fetchAll (F := F) L t >>= kk) Q) := by
  rw [idx_rows d L f, idx_rows d L (chunkIdx list L t), bigSep_eight, bigSep_eight]
  iintro ⟨#Hmw, Hl, ⟨H0, H1, H2, H3, H4, H5, H6, H7⟩, ⟨S0, S1, S2, S3, S4, S5, S6, S7⟩, ⟨%W', %hW', HO⟩⟩ Hk
  unfold fetchAll
  simp only [bind_assoc]
  iapply (wp_fetch d L t 0 cc0_scoped0 q list f O _) $$ [Hl H0 S0 HO]
  · iframe # ∗
  iintro ⟨Hl, H0, S0, HO⟩
  iapply (wp_fetch d L t 1 cc0_scoped1 q list f O _) $$ [Hl H1 S1 HO]
  · iframe # ∗
  iintro ⟨Hl, H1, S1, HO⟩
  iapply (wp_fetch d L t 2 cc0_scoped2 q list f O _) $$ [Hl H2 S2 HO]
  · iframe # ∗
  iintro ⟨Hl, H2, S2, HO⟩
  iapply (wp_fetch d L t 3 cc0_scoped3 q list f O _) $$ [Hl H3 S3 HO]
  · iframe # ∗
  iintro ⟨Hl, H3, S3, HO⟩
  iapply (wp_fetch d L t 4 cc0_scoped4 q list f O _) $$ [Hl H4 S4 HO]
  · iframe # ∗
  iintro ⟨Hl, H4, S4, HO⟩
  iapply (wp_fetch d L t 5 cc0_scoped5 q list f O _) $$ [Hl H5 S5 HO]
  · iframe # ∗
  iintro ⟨Hl, H5, S5, HO⟩
  iapply (wp_fetch d L t 6 cc0_scoped6 q list f O _) $$ [Hl H6 S6 HO]
  · iframe # ∗
  iintro ⟨Hl, H6, S6, HO⟩
  iapply (wp_fetch d L t 7 cc0_scoped7 q list f O _) $$ [Hl H7 S7 HO]
  · iframe # ∗
  iintro ⟨Hl, H7, S7, HO⟩
  rw [pure_bind]
  iapply Hk
  iframe Hl H0 H1 H2 H3 H4 H5 H6 H7 S0 S1 S2 S3 S4 S5 S6 S7
  iexists _
  isplitr
  rotate_left
  · iexact HO
  ipureintro
  intro p hp
  simp only [Finset.mem_insert] at hp
  rcases hp with rfl | rfl | rfl | rfl | rfl | rfl | rfl | rfl | hp
  any_goals exact .inr rfl
  exact hW' p hp

/-- A share of the features, the row buffer and the index buffer split into what the eight gathers are lent. -/
theorem lent_all {I : Buf (Elt F) ((thr d L).loc cc0_scratch0)} (fr : Buf (Elt F) ((thr d L).loc cc0_scratch1)) :
    iprop((featLoc d ↦{q} feat) ∗ ((thr d L).loc cc0_scratch0 ↦{fullShare} I) ∗ ((thr d L).loc cc0_scratch1 ↦{fullShare} fr))
      ⊢ iprop(Lent d L q feat (I := I) fr 0 ∗ Lent d L q feat (I := I) fr 1 ∗ Lent d L q feat (I := I) fr 2 ∗ Lent d L q feat (I := I) fr 3
        ∗ Lent d L q feat (I := I) fr 4 ∗ Lent d L q feat (I := I) fr 5 ∗ Lent d L q feat (I := I) fr 6 ∗ Lent d L q feat (I := I) fr 7) := by
  rw [← bigSep_eight (fun k => Lent d L q feat (I := I) fr k), pointsTo_piecesOf Finset.univ feat (show 0 < 8 by decide) q, rows_blocks, idx_rows]
  simp only [Lent]
  rw [bigSep_sep', bigSep_sep', featAll_set]
  iintro ⟨H0, H1, H2⟩
  iframe

/-- The eight gathers leave the feature rows of the index buffer's words in the row buffer. -/
theorem wp_gatherAll {I : Buf (Elt F) ((thr d L).loc cc0_scratch0)} (hI : RowWords I) (fr : Buf (Elt F) ((thr d L).loc cc0_scratch1))
    {β : Type} {kk : PUnit → Prog (TpuEff nD τ sig (Elt F) Λ₀ (thr d L).2) β} {Q : β → sProp 𝕄} :
    iprop(Transfers.MayWaits (thr d L) (none : HIx 1) O ∗ (featLoc d ↦{q} feat) ∗ ((thr d L).loc cc0_scratch0 ↦{fullShare} I)
        ∗ ((thr d L).loc cc0_scratch1 ↦{fullShare} fr) ∗ semVal ((thr d L), .dma cc0_scratch3.sem) 0 ∗ Owing d L O W)
      ⊢ iprop((iprop((featLoc d ↦{q} feat) ∗ ((thr d L).loc cc0_scratch0 ↦{fullShare} I) ∗ ((thr d L).loc cc0_scratch1 ↦{fullShare} gathered feat I)
              ∗ semVal ((thr d L), .dma cc0_scratch3.sem) 0 ∗ Owing d L O W)
            -∗ wp frame (wpE defs₀ 𝒱₀ (thr d L) none) Set.univ (kk ⟨⟩) Q)
          -∗ wp frame (wpE defs₀ 𝒱₀ (thr d L) none) Set.univ (gatherAll (F := F) L >>= kk) Q) := by
  iintro ⟨#Hmw, Hf, Hi, Hr, Hs, ⟨%W', %hW', HO⟩⟩ Hk
  ihave HL := (lent_all d L q feat (I := I) fr) $$ [Hf Hi Hr]
  · iframe
  icases HL with ⟨L0, L1, L2, L3, L4, L5, L6, L7⟩
  imod (Transfers.batch_alloc' countersEmb (thr d L) (none : HIx 1) rowCredit (Delivered d L q feat hI fr) (E := Set.univ)) $$ Hs with HB
  unfold gatherAll
  simp only [bind_assoc]
  iapply (wp_issue d L q feat hI fr 0 (n := 0) (n' := 80) rfl rfl) $$ [L0 HB]
  · iframe L0; iexact HB
  iintro HB
  iapply (wp_issue d L q feat hI fr 1 (n := 80) (n' := 160) rfl rfl) $$ [L1 HB]
  · iframe L1; iexact HB
  iintro HB
  iapply (wp_issue d L q feat hI fr 2 (n := 160) (n' := 240) rfl rfl) $$ [L2 HB]
  · iframe L2; iexact HB
  iintro HB
  iapply (wp_issue d L q feat hI fr 3 (n := 240) (n' := 320) rfl rfl) $$ [L3 HB]
  · iframe L3; iexact HB
  iintro HB
  iapply (wp_issue d L q feat hI fr 4 (n := 320) (n' := 400) rfl rfl) $$ [L4 HB]
  · iframe L4; iexact HB
  iintro HB
  iapply (wp_issue d L q feat hI fr 5 (n := 400) (n' := 480) rfl rfl) $$ [L5 HB]
  · iframe L5; iexact HB
  iintro HB
  iapply (wp_issue d L q feat hI fr 6 (n := 480) (n' := 560) rfl rfl) $$ [L6 HB]
  · iframe L6; iexact HB
  iintro HB
  iapply (wp_issue d L q feat hI fr 7 (n := 560) (n' := 640) rfl rfl) $$ [L7 HB]
  · iframe L7; iexact HB
  iintro HB
  ihave HB := (Entails.of_eq (congrArg (BatchAt d L q feat hI fr 640) (Nat.zero_mul rowCredit).symm)) $$ HB
  iapply (wp_await d L q feat hI fr 0 O _ (u := 0) (u' := 80) rfl (by decide)) $$ [HB HO]
  · iframe # ∗
  iintro ⟨HB, HO⟩
  iapply (wp_await d L q feat hI fr 1 O _ (u := 80) (u' := 160) rfl (by decide)) $$ [HB HO]
  · iframe # ∗
  iintro ⟨HB, HO⟩
  iapply (wp_await d L q feat hI fr 2 O _ (u := 160) (u' := 240) rfl (by decide)) $$ [HB HO]
  · iframe # ∗
  iintro ⟨HB, HO⟩
  iapply (wp_await d L q feat hI fr 3 O _ (u := 240) (u' := 320) rfl (by decide)) $$ [HB HO]
  · iframe # ∗
  iintro ⟨HB, HO⟩
  iapply (wp_await d L q feat hI fr 4 O _ (u := 320) (u' := 400) rfl (by decide)) $$ [HB HO]
  · iframe # ∗
  iintro ⟨HB, HO⟩
  iapply (wp_await d L q feat hI fr 5 O _ (u := 400) (u' := 480) rfl (by decide)) $$ [HB HO]
  · iframe # ∗
  iintro ⟨HB, HO⟩
  iapply (wp_await d L q feat hI fr 6 O _ (u := 480) (u' := 560) rfl (by decide)) $$ [HB HO]
  · iframe # ∗
  iintro ⟨HB, HO⟩
  iapply (wp_awaitLast d L q feat hI fr 7 O _) $$ [HB HO]
  · iframe # ∗
  iintro ⟨HD, Hs, HO⟩
  rw [pure_bind]
  ihave HD := (delivered_join d L q feat hI fr) $$ HD
  icases HD with ⟨Hf, Hr, Hi⟩
  iapply Hk
  iframe Hf Hr Hi Hs
  iexists _
  isplitr
  rotate_left
  · iexact HO
  ipureintro
  intro p hp
  simp only [Finset.mem_insert] at hp
  rcases hp with rfl | rfl | rfl | rfl | rfl | rfl | rfl | rfl | hp
  any_goals exact .inr rfl
  exact hW' p hp

/-- The copy of the means makes the chunk's rows of the result final. -/
theorem wp_writeOut (f : Buf (Elt F) (outLoc d)) (hf : DoneBelow feat list L (chunk L t.val) f)
    {β : Type} {kk : PUnit → Prog (TpuEff nD τ sig (Elt F) Λ₀ (thr d L).2) β} {Q : β → sProp 𝕄} :
    iprop(Transfers.MayWaits (thr d L) (none : HIx 1) O ∗ ((thr d L).loc cc0_scratch2 ↦{fullShare} meansOf (gathered feat (chunkIdx list L t)))
        ∗ (outLoc d ↦[tileSet L]{fullShare} f) ∗ semVal ((thr d L), .dma cc0_scratch4.sem) 0 ∗ Owing d L O W)
      ⊢ iprop((iprop(((thr d L).loc cc0_scratch2 ↦{fullShare} meansOf (gathered feat (chunkIdx list L t)))
              ∗ (∃ f', ⌜DoneBelow feat list L (chunk L (t.val + 1)) f'⌝ ∗ outLoc d ↦[tileSet L]{fullShare} f')
              ∗ semVal ((thr d L), .dma cc0_scratch4.sem) 0 ∗ Owing d L O W)
            -∗ wp frame (wpE defs₀ 𝒱₀ (thr d L) none) Set.univ (kk ⟨⟩) Q)
          -∗ wp frame (wpE defs₀ 𝒱₀ (thr d L) none) Set.univ (writeOut (F := F) L t >>= kk) Q) := by
  have hm : meanM.view.set = Finset.univ := View.set_whole _
  iintro ⟨#Hmw, Hm, Ho, Hs, ⟨%W', %hW', HO⟩⟩ Hk
  unfold writeOut
  iapply (Transfers.wp_dmaLocal countersEmb 𝒱₀ (thr d L) none (none : HIx 1) (View.amount (outChunk L t).view (.dma cc0_scratch4.sem)) rfl
    (View.amount_pos _ _ (show 0 < S80x128.numel by decide)) (outChunk_subset L t)) $$ [Hm Ho Hs]
  · isplitl [Hm]; · rw [hm]; iexact Hm
    isplitl [Ho]; · iexact Ho
    iexact Hs
  iintro Hfl
  iapply (Transfers.wp_waitLocalO countersEmb 𝒱₀ (thr d L) none (none : HIx 1) rfl) $$ [Hfl HO]
  · isplitl [Hfl]; · iexact Hfl
    isplitl [HO]; · iexact HO
    iapply (Transfers.MayWaits.elim (SemLoc.dma cc0_scratch4.sem)) $$ Hmw
  iintro ⟨⟨Ho, Hm⟩, Hs, HO⟩
  iapply Hk
  isplitl [Hm]
  · rw [hm]; iexact Hm
  isplitl [Ho]
  · iexists _
    isplitr
    rotate_left
    · iexact Ho
    ipureintro
    exact doneBelow_step feat list L t f hf
  isplitl [Hs]; · iexact Hs
  iexists _
  isplitr
  rotate_left
  · iexact HO
  ipureintro
  intro p hp
  rcases Finset.mem_insert.mp hp with rfl | hp
  · exact .inr rfl
  · exact hW' p hp

/-- What the tile holds between trips, the chunks before `c` done. -/
def Between (c : ℕ) : sProp 𝕄 :=
  iprop(Transfers.MayWaits (thr d L) (none : HIx 1) O ∗ (featLoc d ↦{q} feat) ∗ (listLoc d ↦{q'} list)
    ∗ (∃ f, ⌜DoneBelow feat list L c f⌝ ∗ outLoc d ↦[tileSet L]{fullShare} f)
    ∗ (∃ f, (thr d L).loc cc0_scratch0 ↦{fullShare} f) ∗ (∃ f, (thr d L).loc cc0_scratch1 ↦{fullShare} f)
    ∗ (∃ f, (thr d L).loc cc0_scratch2 ↦{fullShare} f) ∗ FetchSems d L ∗ semVal ((thr d L), .dma cc0_scratch3.sem) 0
    ∗ semVal ((thr d L), .dma cc0_scratch4.sem) 0 ∗ Owing d L O W)

omit [FloatOps F] in
/-- Where every word of the list names a feature row, so does every word a trip fetches. -/
theorem chunkIdx_words (hlist : ∀ i, (list i).toNat < 100000) : RowWords (chunkIdx list L t) := fun _ => hlist _

/-- A trip takes the tile from the chunks before its own done to those before the next trip's. -/
theorem wp_chunkTrip (hlist : ∀ i, (list i).toNat < 100000) :
    Between d L q q' feat list O W (chunk L t.val)
      ⊢ wp frame (wpE defs₀ 𝒱₀ (thr d L) none) Set.univ (chunkTrip (F := F) L t)
          fun _ => Between d L q q' feat list O W (chunk L (t.val + 1)) := by
  unfold Between
  iintro ⟨#Hmw, Hf, Hl, ⟨%f, %hf, Ho⟩, ⟨%i0, Hi⟩, ⟨%r0, Hr⟩, ⟨%m0, Hm⟩, HS, Hg, Hw, HO⟩
  unfold chunkTrip
  iapply (wp_fetchAll d L t q' list O W i0) $$ [Hl Hi HS HO]
  · iframe # ∗
  iintro ⟨Hl, Hi, HS, HO⟩
  iapply (wp_gatherAll d L q feat O W (chunkIdx_words d L t list hlist) r0) $$ [Hf Hi Hr Hg HO]
  · iframe # ∗
  iintro ⟨Hf, Hi, Hr, Hg, HO⟩
  iapply (rowLoop d L (gathered feat (chunkIdx list L t)) m0) $$ [Hr Hm]
  · iframe
  iintro ⟨Hr, Hm⟩
  iapply (wp_writeOut d L t feat list O W f hf) $$ [Hm Ho Hw HO]
  · iframe # ∗
  iintro ⟨Hm, Ho, Hw, HO⟩
  sl_step
  iframe # ∗
  isplitl [Hi]; · iexists _; iexact Hi
  isplitl [Hr]; · iexists _; iexact Hr
  iexists _; iexact Hm

end Parts

end Cert.GatherMean

end
-- ==== Proof.Tile.lean ====
/- A tile's whole task: its chunks one trip each, from its shares of the table and of the list, and its rows of the result. -/
module

public import proofs.«01_k».proof.Proof.Trip

@[expose] public section

noncomputable section

namespace Cert.GatherMean

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own semaphores and buffers -/

/-- Of a family of resources, those at the images of `t` under a map one-to-one on `t`, and the others. -/
theorem take_image {I J : Type} [DecidableEq I] [DecidableEq J] {s : Finset I} {t : Finset J} {f : J → I} (inj : Set.InjOn f t)
    (sub : ∀ j ∈ t, f j ∈ s) {Φ : I → sProp 𝕄} :
    bigSep s Φ = iprop(bigSep t (fun j => Φ (f j)) ∗ bigSep (s \ t.image f) Φ) := by
  have h : t.image f ⊆ s := fun x hx => by
    obtain ⟨j, hj, rfl⟩ := Finset.mem_image.mp hx
    exact sub j hj
  refine (BI.bigSep_sdiff_split h).trans ?_
  rw [SparseCore.bigSep_image_of_injOn inj]
  rfl

/-- A separating conjunction regrouped to the right. -/
theorem sep_regroup (A B C : sProp 𝕄) : iprop((A ∗ B) ∗ C) = iprop(A ∗ B ∗ C) := by
  have h : iprop((A ∗ B) ∗ C) ⊣⊢ (iprop(A ∗ B ∗ C) : sProp 𝕄) := Laws.sep_assoc
  exact BI.Entails.antisymm h.1 h.2

/-- The semaphores a tile uses. -/
def tileSems : Finset (SemLoc sig) :=
  {.dma cc0_scoped0.sem, .dma cc0_scoped1.sem, .dma cc0_scoped2.sem, .dma cc0_scoped3.sem, .dma cc0_scoped4.sem, .dma cc0_scoped5.sem,
    .dma cc0_scoped6.sem, .dma cc0_scoped7.sem, .dma cc0_scratch3.sem, .dma cc0_scratch4.sem}

/-- The semaphores a tile uses are among its own; the others stay aside. -/
theorem own_sems (d : Dev nD) (L : grid0.Coords) :
    (ownSems0 (thr d L) : sProp 𝕄)
      = iprop((FetchSems d L ∗ semVal ((thr d L), .dma cc0_scratch3.sem) 0 ∗ semVal ((thr d L), .dma cc0_scratch4.sem) 0)
          ∗ bigSep (ownCells (thr d L) \ tileSems.image fun s => ((thr d L), s)) fun g => semVal g 0) := by
  unfold SparseCore.Cfg.ownSems0
  rw [take_image (t := tileSems) (f := fun s => ((thr d L), s)) (fun _ _ _ _ e => (Prod.mk.inj e).2) (fun s hs => mem_ownCells.mpr ⟨rfl, by
    have h : ∀ s ∈ tileSems, s.isScoped .scVector = true := by decide
    exact h s hs⟩)]
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  simp only [FetchSems, sep_regroup]

/-- The buffers a tile uses. -/
def tileBufs : Finset (Ref sig .scVector) := {cc0_scratch0, cc0_scratch1, cc0_scratch2}

/-- The buffers a tile uses are among its own; the others stay aside. -/
theorem own_bufs (d : Dev nD) (L : grid0.Coords) :
    (ownBufs (thr d L) : sProp 𝕄)
      = iprop(((∃ f, (thr d L).loc cc0_scratch0 ↦{fullShare} f) ∗ (∃ f, (thr d L).loc cc0_scratch1 ↦{fullShare} f)
            ∗ (∃ f, (thr d L).loc cc0_scratch2 ↦{fullShare} f))
          ∗ bigSep (ownRefs (τ := τ) (.scVector (cV L) (jV L)) \ tileBufs.image fun b => (Proc.scVector (cV L) (jV L)).devRef b)
              fun b => iprop(∃ f, ((d, b) : Loc nD τ sig) ↦{fullShare} f)) := by
  unfold SparseCore.Cfg.ownBufs
  refine (take_image (t := tileBufs) (f := fun b => (Proc.scVector (cV L) (jV L)).devRef b)
    (fun _ _ _ _ e => Proc.devRef_injective _ e) (fun b hb => by
      have h : b = cc0_scratch0 ∨ b = cc0_scratch1 ∨ b = cc0_scratch2 := by simpa [tileBufs] using hb
      rcases h with rfl | rfl | rfl
      all_goals exact SparseCore.Cfg.mem_ownRefs_of_owner rfl)).trans ?_
  unfold tileBufs
  rw [SparseCore.bigSep_insert' (by decide), SparseCore.bigSep_insert' (by decide), bigSep_singleton]

/-! ## The task -/

variable [FloatOps F]

/-- The kernel at its operands. -/
abbrev kernelAt (L : grid0.Coords) :=
  cc0_run (F := F) L featM (Memref.isWhole_whole _) listM (Memref.isWhole_whole _) outM (Memref.isWhole_whole _) idxM (Memref.isWhole_whole _)
    rowsM (Memref.isWhole_whole _) meanM (Memref.isWhole_whole _) cc0_scratch3 cc0_scratch4 cc0_scoped0 cc0_scoped1 cc0_scoped2 cc0_scoped3
    cc0_scoped4 cc0_scoped5 cc0_scoped6 cc0_scoped7 cc0_scoped8 cc0_scoped9 cc0_scoped10 cc0_scoped11 cc0_scoped12 cc0_scoped13 cc0_scoped14 cc0_scoped15

/-- The word the kernel computes of its tile's number. -/
def widWord (L : grid0.Coords) : BitVec 32 := Scalar.addi (Scalar.muli (BitVec.ofNat 32 (L 1).val) 2#32) (BitVec.ofNat 32 (L 0).val)

/-- The kernel is the loop over the tile's chunks, a trip each; the second loop makes no trip. -/
theorem kernel_eq (L : grid0.Coords) :
    kernelAt (F := F) L = Scf.Loop.for (k0_t1_loop L) (k0_t1_ok L) ⟨⟩ (chunkBody (F := F) L (widWord L)) >>= fun _ => (pure PUnit.unit) := by
  unfold kernelAt
  rw [cc0_run_eq_skeleton]
  unfold cc0_run_skel
  refine congrArg (bind _) (funext fun _ => ?_)
  exact congrArg (· >>= fun _ => (pure PUnit.unit)) (Scf.for_eq_ret _ _ _ (k0_t3_ok L) _ _ (rest_trips L))

/-- After its last trip all of the tile's rows are final. -/
theorem done_all {feat : S100000x128.Idx → F .f32} {list : S400000.Idx → BitVec 32} {L : grid0.Coords} {f : S50000x128.Idx → F .f32}
    (h : DoneBelow feat list L (chunk L (k0_t1_loop L).trips) f) : ∀ y ∈ tileSet L, f y = meanRows feat list y := fun y hy => h y hy (by
  have h1 := mem_tileSet.mp hy
  have h2 : (y 0).val < 50000 := (y 0).isLt
  have h3 := trips_eq L
  have h4 := wid_lt L
  unfold chunk; omega)

/-- What a tile brings: shares of the table and of the list, and its rows of the result. -/
abbrev TileGets (d : Dev nD) (L : grid0.Coords) (q q' : PosShare TreeShare) (feat : Buf (Elt F) (featLoc d)) (list : Buf (Elt F) (listLoc d))
    (f : Buf (Elt F) (outLoc d)) : sProp 𝕄 :=
  iprop((featLoc d ↦{q} feat) ∗ (listLoc d ↦{q'} list) ∗ outLoc d ↦[tileSet L]{fullShare} f)

/-- THE TASK of a tile: where every word of the list names a row of the table, the tile's rows of the result come to hold their
    means, and all else it was given comes back as it was. -/
theorem tile_task (d : Dev nD) (L : grid0.Coords) (q q' : PosShare TreeShare) (feat : Buf (Elt F) (featLoc d)) (list : Buf (Elt F) (listLoc d))
    (f : Buf (Elt F) (outLoc d)) (hlist : ∀ i, (list i).toNat < 100000) (hF : (K (F := F)).Facts) (O : CellTallies nD τ sig (HIx 1))
    (W : Waits sig (HIx 1)) (hO : ∀ g, O g none = 0) :
    iprop(levAts (K (F := F)).L (K (F := F)).lev ∗ emp ∗ TileGets d L q q' feat list f
        ∗ scopedBufs (thr d L) ∗ scopedSems0 (thr d L) ∗ owes (thr d L) O W)
      ⊢ wp frame (wpE (defs₀ (F := F)) 𝒱₀ (thr d L) none) Set.univ (kernelAt (F := F) L)
          fun _ => iprop(TileGets d L q q' feat list (meanRows feat list) ∗ scopedBufs (thr d L) ∗ scopedSems0 (thr d L) ∗ Owing d L O W) := by
  rw [kernel_eq, (K (F := F)).scopedBufs_V hF d (cV L) (jV L), SparseCore.Cfg.scopedSems0_V (Val := Elt F) d (cV L) (jV L), own_sems, own_bufs]
  iintro ⟨#Hlv, -, ⟨Hf, Hl, Ho⟩, ⟨⟨Hi, Hr, Hm⟩, Hbufs⟩, ⟨⟨HS, Hg, Hw⟩, Hsems⟩, HO⟩
  ihave Hmw := (show levAts (K (F := F)).L (K (F := F)).lev ⊢ Transfers.MayWaits (thr d L) (none : HIx 1) O from
    (K (F := F)).mayWaits_none (thr := thr d L) hO) $$ Hlv
  iapply (Scf.wp_for_bind frame (wpE defs₀ 𝒱₀ (thr d L) none) Set.univ _ _ _ (k0_t1_ok L) _ (chunkBody (F := F) L (widWord L))
    (fun t _ => Between d L q q' feat list O W (chunk L t))
    (fun t u => by rw [chunkBody_eq]; exact wp_chunkTrip d L t q q' feat list O W hlist)) $$ [Hmw Hf Hl Ho Hi Hr Hm HS Hg Hw HO]
  · unfold Between
    iframe Hmw Hf Hl Hi Hr Hm HS Hg Hw
    isplitl [Ho]
    · iexists f
      isplitr
      · ipureintro
        intro y hy hlt
        have h1 := mem_tileSet.mp hy
        have h2 := wid_lt L
        unfold chunk at hlt
        omega
      iexact Ho
    iexists W
    isplitr
    · ipureintro; exact fun p hp => .inl hp
    iexact HO
  iintro %_ HB
  unfold Between
  icases HB with ⟨-, Hf, Hl, ⟨%g, %hg, Ho⟩, Hi, Hr, Hm, HS, Hg, Hw, HO⟩
  sl_step
  iframe Hf Hl Hi Hr Hm HS Hg Hw HO Hbufs Hsems
  iapply (Entails.of_eq (pointsTo_congr (done_all hg))) $$ Ho

end Cert.GatherMean

end
-- ==== Proof.Launch.lean ====
/- The whole run: @main lays the index list flat and calls the kernel, whose 32 tiles share the table and the list and divide the rows of
   the result. -/
module

public import proofs.«01_k».proof.Proof.Tile

@[expose] public section

noncomputable section

namespace Cert.GatherMean

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The result's rows divided: first between the SparseCores, then among a SparseCore's subcores -/

/-- The coordinates of subcore `s` of SparseCore `c`. -/
def tileAt (c : Fin 2) (s : Fin 16) : grid0.Coords := fun
  | 0 => c
  | 1 => s
  | ⟨_ + 2, h⟩ => absurd h (Nat.not_lt.2 (Nat.le_add_left _ _))

theorem wid_tileAt (c : Fin 2) (s : Fin 16) : wid (tileAt c s) = s.val * 2 + c.val := rfl

/-- The rows of the result that SparseCore `c`'s tiles work on. -/
def coreSet (c : Fin 2) : Finset S50000x128.Idx := Finset.univ.filter fun y => (y 0).val / 80 % 32 % 2 = c.val

theorem mem_coreSet {c : Fin 2} {y : S50000x128.Idx} : y ∈ coreSet c ↔ (y 0).val / 80 % 32 % 2 = c.val := by
  simp [coreSet]

theorem cores_apart : ∀ c ∈ (Finset.univ : Finset (Fin 2)), ∀ c' ∈ (Finset.univ : Finset (Fin 2)), c ≠ c' → Disjoint (coreSet c) (coreSet c') :=
  fun c _ c' _ h => Finset.disjoint_left.mpr fun y hy hy' => h (Fin.ext ((mem_coreSet.mp hy).symm.trans (mem_coreSet.mp hy')))

theorem cores_cover : (Finset.univ : Finset (Fin 2)).biUnion coreSet = Finset.univ := by
  ext y
  simp only [Finset.mem_biUnion, Finset.mem_univ, true_and, iff_true]
  exact ⟨⟨(y 0).val / 80 % 32 % 2, Nat.mod_lt _ (by decide)⟩, mem_coreSet.mpr rfl⟩

theorem tiles_apart (c : Fin 2) : ∀ s ∈ (Finset.univ : Finset (Fin 16)), ∀ s' ∈ (Finset.univ : Finset (Fin 16)), s ≠ s' →
    Disjoint (tileSet (tileAt c s)) (tileSet (tileAt c s')) := fun s _ s' _ h => Finset.disjoint_left.mpr fun y hy hy' => h (Fin.ext (by
  have h1 := mem_tileSet.mp hy
  have h2 := mem_tileSet.mp hy'
  rw [wid_tileAt] at h1 h2
  omega))

theorem tiles_cover (c : Fin 2) : (Finset.univ : Finset (Fin 16)).biUnion (fun s => tileSet (tileAt c s)) = coreSet c := by
  ext y
  simp only [Finset.mem_biUnion, Finset.mem_univ, true_and, mem_tileSet, mem_coreSet, wid_tileAt]
  constructor
  · rintro ⟨s, h⟩
    have := c.isLt
    omega
  · intro h
    exact ⟨⟨(y 0).val / 80 % 32 / 2, by omega⟩, by show _ = (y 0).val / 80 % 32 / 2 * 2 + c.val; omega⟩

/-- The share of the table, and of the list, that SparseCore `c` reads with, and the one its subcore `s` does. -/
abbrev coreShare (c : Fin 2) : PosShare TreeShare := pieceOf fullShare 2 (by decide) c
abbrev tileShare (c : Fin 2) (s : Fin 16) : PosShare TreeShare := pieceOf (coreShare c) 16 (by decide) s

/-- What @main hands the kernel: the table, the list, the result's buffer. -/
abbrev AllGets (d : Dev nD) (feat : Buf (Elt F) (featLoc d)) (list : Buf (Elt F) (listLoc d)) (f : Buf (Elt F) (outLoc d)) : sProp 𝕄 :=
  iprop((featLoc d ↦{fullShare} feat) ∗ (listLoc d ↦{fullShare} list) ∗ outLoc d ↦{fullShare} f)

/-- SparseCore `c`'s part of it. -/
abbrev CoreGets (d : Dev nD) (c : Fin 2) (feat : Buf (Elt F) (featLoc d)) (list : Buf (Elt F) (listLoc d)) (f : Buf (Elt F) (outLoc d)) : sProp 𝕄 :=
  iprop((featLoc d ↦{coreShare c} feat) ∗ (listLoc d ↦{coreShare c} list) ∗ outLoc d ↦[coreSet c]{fullShare} f)

theorem all_cores (d : Dev nD) (feat : Buf (Elt F) (featLoc d)) (list : Buf (Elt F) (listLoc d)) (f : Buf (Elt F) (outLoc d)) :
    AllGets d feat list f = bigSep Finset.univ fun c => CoreGets d c feat list f := by
  rw [bigSep_sep', bigSep_sep', ← pointsTo_piecesOf Finset.univ feat (show 0 < 2 by decide) fullShare,
    ← pointsTo_piecesOf Finset.univ list (show 0 < 2 by decide) fullShare, ← pointsTo_biUnion Finset.univ (ℓ := outLoc d) coreSet cores_apart, cores_cover]

theorem core_tiles (d : Dev nD) (c : Fin 2) (feat : Buf (Elt F) (featLoc d)) (list : Buf (Elt F) (listLoc d)) (f : Buf (Elt F) (outLoc d)) :
    CoreGets d c feat list f = bigSep Finset.univ fun s => TileGets d (tileAt c s) (tileShare c s) (tileShare c s) feat list f := by
  rw [bigSep_sep', bigSep_sep', ← pointsTo_piecesOf Finset.univ feat (show 0 < 16 by decide) (coreShare c),
    ← pointsTo_piecesOf Finset.univ list (show 0 < 16 by decide) (coreShare c),
    ← pointsTo_biUnion Finset.univ (ℓ := outLoc d) (fun s => tileSet (tileAt c s)) (tiles_apart c), tiles_cover]

/-! ## What the call carries -/

variable [FloatOps F] (m : (ℓ : Loc nD τ sig) → Buf (Elt F) ℓ) (ρ : Dev nD → PrngReg)

/-- The index list laid flat, as @main lays it. -/
def flat (a : S8x50000.Idx → BitVec 32) : S400000.Idx → BitVec 32 := shapeCast S400000 a shapeCasts_S8x50000_S400000

/-- The launch's table and flat list. -/
abbrev feat₀ (d : Dev nD) : Buf (Elt F) (featLoc d) := m (featLoc d)
abbrev list₀ (d : Dev nD) : Buf (Elt F) (listLoc d) := flat (m (argLoc d))

/-- Every word of the index list names a row of the table. -/
def InRows : Prop := ∀ (d : Dev nD) (j : S8x50000.Idx), (m (argLoc d) j).toNat < 100000

/-- The call's payloads: each SparseCore, and each tile, gets its part and brings it back, the result's rows now their means. -/
def P : (K (F := F)).Pay (nD := nD) (Val := Elt F) (Name := ℕ) (U := UU) where
  st := fun q d c => match q with | 0 => CoreGets d c (feat₀ m d) (list₀ m d) (m (outLoc d))
  dn := fun q d c => match q with | 0 => CoreGets d c (feat₀ m d) (list₀ m d) (meanRows (feat₀ m d) (list₀ m d))
  go := fun q d c s => match q with
    | 0 => TileGets d (tileAt c s) (tileShare c s) (tileShare c s) (feat₀ m d) (list₀ m d) (m (outLoc d))
  td := fun q d c s => match q with
    | 0 => TileGets d (tileAt c s) (tileShare c s) (tileShare c s) (feat₀ m d) (list₀ m d) (meanRows (feat₀ m d) (list₀ m d))
  x := fun _ _ => iprop(emp)

instance P_storable : (P (F := F) m).IsStorable where
  st q d c := match q with
    | 0 => (inferInstance : BI.Storable (upEmb : UEmb _ 𝕄) (CoreGets d c (feat₀ m d) (list₀ m d) (m (outLoc d))))
  dn q d c := match q with
    | 0 => (inferInstance : BI.Storable (upEmb : UEmb _ 𝕄) (CoreGets d c (feat₀ m d) (list₀ m d) (meanRows (feat₀ m d) (list₀ m d))))
  go q d c s := match q with
    | 0 => (inferInstance : BI.Storable (upEmb : UEmb _ 𝕄)
      (TileGets d (tileAt c s) (tileShare c s) (tileShare c s) (feat₀ m d) (list₀ m d) (m (outLoc d))))
  td q d c s := match q with
    | 0 => (inferInstance : BI.Storable (upEmb : UEmb _ 𝕄)
      (TileGets d (tileAt c s) (tileShare c s) (tileShare c s) (feat₀ m d) (list₀ m d) (meanRows (feat₀ m d) (list₀ m d))))

/-- On a vector subcore of the grid the call runs the kernel at the subcore's coordinates. -/
theorem vector_runs (c : Fin τ.nSC) (s : Fin τ.nSub) :
    defs₀ (F := F) (.scVector c s) 0 () = SparseCore.onTile hcore0 hsub0 (fun c s => kernelAt (F := F) (tileAt c s)) ⟨⟩ c s := rfl

omit [FloatOps F] in
/-- A tile's waits are of no call's, so of no other call's than `q`. -/
theorem wider_waits {d : Dev nD} {L : grid0.Coords} {A B C : sProp 𝕄} {O : CellTallies nD τ sig (HIx 1)} {W : Waits sig (HIx 1)} {q : Fin 1} :
    iprop(A ∗ B ∗ C ∗ Owing d L O W) ⊢ iprop(A ∗ B ∗ C ∗ ∃ W', ⌜∀ p ∈ W', p ∈ W ∨ p.2 = none ∨ p.2 = some q⌝ ∗ owes (thr d L) O W') := by
  iintro ⟨HA, HB, HC, %W', %hW', HO⟩
  iframe HA HB HC
  iexists W'
  isplitr
  · ipureintro; exact fun p hp => (hW' p hp).imp_right Or.inl
  · iexact HO

set_option maxRecDepth 16384 in
/-- Each tile meets what the call asks of it. -/
theorem tileObl (hin : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_runs]
  simp only [SparseCore.onTile, hci, and_self, ↓reduceDIte]
  refine (tile_task d (tileAt c i) (tileShare c i) (tileShare c i) (feat₀ m d) (list₀ m d) (m (outLoc d)) (fun _ => hin d _) facts O W hO).trans
    (wp_mono frame _ _ fun _ => ?_)
  exact wider_waits

/-- A SparseCore's part divides into its tiles', and comes back together from theirs. -/
theorem vecSplit : (K (F := F)).VecSplit' (P m) 0 := by
  intro d c
  show CoreGets d c (feat₀ m d) (list₀ m d) (m (outLoc d)) ⊢ |={Set.univ}=> iprop(
      (bigSep (Finset.univ : Finset (Fin 16)) fun s => TileGets d (tileAt c s) (tileShare c s) (tileShare c s) (feat₀ m d) (list₀ m d) (m (outLoc d)))
      ∗ ((bigSep (Finset.univ : Finset (Fin 16)) fun s =>
            TileGets d (tileAt c s) (tileShare c s) (tileShare c s) (feat₀ m d) (list₀ m d) (meanRows (feat₀ m d) (list₀ m d)))
          -∗ CoreGets d c (feat₀ m d) (list₀ m d) (meanRows (feat₀ m d) (list₀ m d))))
  rw [← core_tiles, ← core_tiles]
  iintro H
  imodintro
  isplitl [H]; · iexact H
  iintro H
  iexact H

/-! ## The ghost state at the launch -/

def u₀ : UU := (initOf (K (F := F)).hsCells (K (F := F)).hsToks, 1)

omit [FloatOps F] in
theorem nothing_each {I : Type} (s : Finset I) : (bigSep s fun _ => iprop(emp)) = (iprop(emp) : sProp 𝕄) := bigSep_emp_const s

theorem ghost₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each, nothing_each]
  iintro Hu
  ihave H := (ownU_pair (initOf (K (F := F)).hsCells (K (F := F)).hsToks) (1 : Counters)) $$ Hu
  icases H with ⟨HH, -⟩
  imodintro
  isplitl [HH]; · iexact HH
  isplitr
  · iempintro
  iempintro

/-! ## @main -/

/-- @main's arrays: the table, the index list, the list laid flat, the result. -/
abbrev bFeat : DevRef τ sig := Proc.devRef .tc main_arg0
abbrev bArg : DevRef τ sig := Proc.devRef .tc main_arg1
abbrev bList : DevRef τ sig := Proc.devRef .tc main_v0
abbrev bOut : DevRef τ sig := Proc.devRef .tc main_v1
abbrev mainBufs : Finset (DevRef τ sig) := {bFeat, bArg, bList, bOut}

/-- @main's first operation: the index list laid flat. -/
abbrev layFlat : HloOp τ sig (Elt F) := StableHlo.reshape main_arg1 main_v0 (rfl : (.i32 : EltTy) = .i32) shapeCasts_S8x50000_S400000

/-- The launch memory of device `d`, by buffer. -/
def V0 (d : Dev nD) : Valuation τ sig (Elt F) := fun b => m (d, b)

omit [FloatOps F] in
theorem held_main (d : Dev nD) (W : Valuation τ sig (Elt F)) :
    (held (T d) mainBufs W : sProp 𝕄)
      = iprop((featLoc d ↦{fullShare} W bFeat) ∗ (argLoc d ↦{fullShare} W bArg) ∗ (listLoc d ↦{fullShare} W bList) ∗ outLoc d ↦{fullShare} W bOut) := by
  unfold held mainBufs
  rw [SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) mainBufs (V0 m d) := by
  rw [held_main]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

/-- Once the list is laid flat @main's arrays hold the launch's but for the list's buffer, which holds the flat list. -/
theorem held_flat (d : Dev nD) :
    (held (T d) mainBufs ((layFlat (F := F)).result (V0 m d)) : sProp 𝕄)
      = iprop((featLoc d ↦{fullShare} feat₀ m d) ∗ (argLoc d ↦{fullShare} m (argLoc d)) ∗ (listLoc d ↦{fullShare} list₀ m d) ∗ outLoc d ↦{fullShare} m (outLoc d)) := by
  have h (b : DevRef τ sig) (hb : b ∉ (layFlat (F := F)).writes) : (layFlat (F := F)).result (V0 m d) b = m (d, b) := HloOp.result_of_not_mem _ _ hb
  rw [held_main, h bFeat (show bFeat ∉ ({bList} : Finset (DevRef τ sig)) by decide), h bArg (show bArg ∉ ({bList} : Finset (DevRef τ sig)) by decide),
    h bOut (show bOut ∉ ({bList} : Finset (DevRef τ sig)) by decide), StableHlo.reshape_result]
  rfl

/-- What the call hands back is the SparseCores' parts together. -/
theorem handed_back (d : Dev nD) :
    (bigSep Finset.univ fun c : Fin ((K (F := F)).nCore 0) => (P m).dn 0 d c) = AllGets d (feat₀ m d) (list₀ m d) (meanRows (feat₀ m d) (list₀ m d)) :=
  (all_cores d (feat₀ m d) (list₀ m d) (meanRows (feat₀ m d) (list₀ m d))).symm

/-- What @main ends with: its arguments as they were, the result's buffer at the means. -/
abbrev AtEnd (d : Dev nD) : sProp 𝕄 :=
  iprop((featLoc d ↦{fullShare} feat₀ m d) ∗ (argLoc d ↦{fullShare} m (argLoc d)) ∗ outLoc d ↦{fullShare} meanRows (feat₀ m d) (list₀ m d))

theorem main_runs (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ AtEnd m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := layFlat) (S := mainBufs) (show ({bArg, bList} : Finset (DevRef τ sig)) ⊆ mainBufs by decide)
    (V := V0 m d)) $$ [Hb Hheld]
  · isplitl [Hb]; · iexact Hb
    iexact Hheld
  rw [held_flat]
  iintro ⟨Hb, Hf, Ha, Hl, Ho⟩
  rw [wp_ret]
  imodintro
  iapply ((K (F := F)).wp_run (D (F := F)) 𝒱 (EH := EH) (P := P m) κ d 0) $$ [Hst Hf Ha Hl Ho Hb Hts]
  isplitr; · iexact Hctx
  isplitl [Hst]; · iexact Hst
  isplitl [Hf Hl Ho]
  · iapply (Entails.of_eq (all_cores d (feat₀ m d) (list₀ m d) (m (outLoc d))))
    isplitl [Hf]; · iexact Hf
    isplitl [Hl]; · iexact Hl
    iexact Ho
  iintro ⟨Hst, Hdn⟩
  ihave Hdn := (Entails.of_eq (handed_back m d)) $$ Hdn
  icases Hdn with ⟨Hf, -, Ho⟩
  imodintro
  isplitl [Hst]; · iexact Hst
  isplitl [Hf Ha Ho]
  · isplitl [Hf]; · iexact Hf
    isplitl [Ha]; · iexact Ha
    iexact Ho
  isplitl [Hb] <;> iassumption

/-- The memory at the end on device `d`: the arguments as they were, the result the means. -/
def Final (d : Dev nD) (s' : Phys nD τ sig (Elt F)) : Prop :=
  s'.mem.mem (outLoc d) = meanRows (feat₀ m d) (list₀ m d) ∧ s'.mem.mem (featLoc d) = m (featLoc d) ∧ s'.mem.mem (argLoc d) = m (argLoc d)

omit [FloatOps F] in
/-- A buffer held whole is the memory's. -/
theorem mem_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  iexact HSI

set_option maxRecDepth 16384 in
theorem final_mem (d : Dev nD) (s' : Phys nD τ sig (Elt F)) : iprop(AtEnd m d ∗ SI s') ⊢ (⌜Final m d s'⌝ : sProp 𝕄) := by
  iintro ⟨⟨Hf, Ha, Ho⟩, HSI⟩
  ihave H := (mem_held s' (featLoc d) _) $$ [Hf HSI]
  · isplitl [Hf] <;> iassumption
  icases H with ⟨%hf, HSI⟩
  ihave H := (mem_held s' (argLoc d) _) $$ [Ha HSI]
  · isplitl [Ha] <;> iassumption
  icases H with ⟨%ha, HSI⟩
  ihave H := (mem_held s' (outLoc d) _) $$ [Ho HSI]
  · isplitl [Ho] <;> iassumption
  icases H with ⟨%ho, -⟩
  ipureintro
  exact ⟨ho, hf, ha⟩

/-- What every run ends with: on each device the means in the result and the arguments as they were, and all semaphores at zero. -/
def RunEnd : PUnit × MemSt nD τ sig (Elt F) → Prop := fun r =>
  (∀ d : Dev nD, r.2.mem (outLoc d) = meanRows (feat₀ m d) (list₀ m d) ∧ r.2.mem (featLoc d) = m (featLoc d) ∧ r.2.mem (argLoc d) = m (argLoc d))
    ∧ r.2.sem = fun _ => 0

/-- THE RUN: from a memory whose index list names rows of the table, every run of the program ends, and ends so. -/
theorem run_main [∀ e, Nonempty (Elt F e)] (hin : InRows m) :
    θ_run (Cert.KernelIdeal.defs (F := F)) (Cert.KernelIdeal.threads (F := F)) ⟨m, fun _ => 0, ρ⟩ (RunEnd m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hin)
    (fun q _ => match q with | 0 => SparseCore.Cfg.VecSplit.of_plain (vecSplit m))
    m ρ main (fun _ => iprop(emp)) (AtEnd m) (u₀ (F := F)) (sep_elim_left.trans (ghost₀ m)) (main_runs m ρ) (Final m) (final_mem m) (RunEnd m)
    (fun _ h hz => ⟨h, hz⟩)

end Cert.GatherMean

end
-- ==== Proof.Ranges.lean ====
/-
  WHAT THE PRECONDITION SAYS. The printed precondition is one bit, the conjunction over all entries of the index
  list of `0 ≤ entry` and `entry < 100000`, read signed. Here it is turned into the form the proofs use, that
  every word of the list, read unsigned, is below 100000; and the comparisons that the reference makes on such a
  word plus one are evaluated.
-/
module

public import proofs.«01_k».proof.Defs
public import proofs.«01_k».proof.Proof.Launch
public import proofs.«01_k».proof.Proof.Gen.Pre_idx_in_rows
public import Idealize.ShloMosaic.Lib.ReduceAll

@[expose] public section

noncomputable section

namespace Cert.GatherMean

open Idealize.ShloMosaic

/-- A word that is at least 0 and less than 100000 as a signed number is below 100000 as an unsigned one. -/
theorem below_of_bits {w : BitVec 32} (h : IntOp.andi (IntOp.cmpi .sge w 0#32) (IntOp.cmpi .slt w 100000#32) = 1#1) :
    w.toNat < 100000 := by
  obtain ⟨hlo, hhi⟩ := IntOp.andi_eq_one.1 h
  have h0 : (0#32).sle w = true := by
    revert hlo; show BitVec.ofBool ((0#32).sle w) = 1#1 → _; cases (0#32).sle w <;> decide
  have h1 : w.slt 100000#32 = true := by
    revert hhi; show BitVec.ofBool (w.slt 100000#32) = 1#1 → _; cases w.slt 100000#32 <;> decide
  rw [BitVec.sle_eq_decide, decide_eq_true_eq] at h0
  rw [BitVec.slt_eq_decide, decide_eq_true_eq] at h1
  have hz : (0#32 : BitVec 32).toInt = 0 := by decide
  have hn : (100000#32 : BitVec 32).toInt = 100000 := by decide
  have hw := BitVec.toInt_eq_toNat_cond w
  have hlt := w.isLt
  rw [hz] at h0; rw [hn] at h1
  split at hw <;> omega

/-- What the reference computes with a word in range: one added, the word is still a small number, so that none of
    its comparisons (below 0, at least 0, at most 100000) takes the exceptional way. -/
theorem next_word {w : BitVec 32} (h : w.toNat < 100000) :
    (w + 1#32).toNat = w.toNat + 1 ∧ (w + 1#32).toInt = (w.toNat + 1 : ℕ) ∧ IntOp.cmpi .slt (w + 1#32) 0#32 = 0#1
      ∧ IntOp.cmpi .sge (w + 1#32) 0#32 = 1#1 ∧ IntOp.cmpi .sle (w + 1#32) 100000#32 = 1#1 := by
  have hN : (w + 1#32).toNat = w.toNat + 1 := by
    rw [BitVec.toNat_add]; show (w.toNat + 1) % 4294967296 = _; omega
  have hI : (w + 1#32).toInt = (w.toNat + 1 : ℕ) := by
    rw [BitVec.toInt_eq_toNat_cond, hN, if_pos (by show 2 * (w.toNat + 1) < 4294967296; omega)]
  have hz : (0#32 : BitVec 32).toInt = 0 := by decide
  have hn : (100000#32 : BitVec 32).toInt = 100000 := by decide
  refine ⟨hN, hI, ?_, ?_, ?_⟩
  · show BitVec.ofBool ((w + 1#32).slt 0#32) = 0#1
    rw [BitVec.slt_eq_decide, hI, hz, decide_eq_false (by omega)]; rfl
  · show BitVec.ofBool ((0#32).sle (w + 1#32)) = 1#1
    rw [BitVec.sle_eq_decide, hI, hz, decide_eq_true (by omega)]; rfl
  · show BitVec.ofBool ((w + 1#32).sle 100000#32) = 1#1
    rw [BitVec.sle_eq_decide, hI, hn, decide_eq_true (by omega)]; rfl

variable {F : FTy → Type} [FloatOps F]

/-- The precondition, at any float values: every entry of the list names a row of the table. -/
theorem entries_below (f : FVec F Cert.Pre_idx_in_rows.S100000x128 .f32) (a : IVec Cert.Pre_idx_in_rows.S8x50000 32)
    (h : (haveI := Cert.Pre_idx_in_rows.Gen.facts; Cert.Pre_idx_in_rows.fn (F := F) f a) = fun _ => 1#1) (j : Cert.Pre_idx_in_rows.S8x50000.Idx) :
    (a j).toNat < 100000 := by
  haveI : Subsingleton Cert.Pre_idx_in_rows.S_.Idx := ⟨fun x y => funext fun b => b.elim0⟩
  exact below_of_bits (Host.reduce_andi_all _ _ _ _ (fun b => b.elim0) (congrFun h _) j)

end Cert.GatherMean

end
-- ==== Proof.Reference.lean ====
/-
  THE REFERENCE'S VALUE. The reference puts a row of zeros in front of the table, adds one to every index, takes the
  rows that the indices then name (jax's take: a negative index counted from the end, a row outside the table
  answered by a constant), adds the eight rows up and divides by 8. For indices in range none of the take's
  exceptions arises and the zero row is never named, so the row taken is the table's own row at the index; and over
  the extended reals dividing by 8 is multiplying by 1/8. The result is therefore the kernel's, `meanRows`.
-/
module

public import proofs.«01_k».proof.Proof.Ranges
public import proofs.«01_k».proof.Proof.Gen.ReferenceIdeal.Run
public import Idealize.ShloMosaic.Lib.Pipeline.Value
public import Idealize.ShloMosaic.PureOps.Ideal.Laws

@[expose] public section

noncomputable section

namespace Cert.GatherMean.Ref

open Cert.ReferenceIdeal Cert.ReferenceIdeal.Gen Idealize.ShloMosaic Idealize.SL.Sem

/-! ## Indices by their coordinates -/

/-- Entry `k` of result row `r` in the list. -/
abbrev entry (k : Fin 8) (r : Fin 50000) : S8x50000.Idx := fun a => match a with
  | 0 => k
  | 1 => r

/-- The same entry in the list with a last axis of one. -/
abbrev entry1 (k : Fin 8) (r : Fin 50000) : S8x50000x1.Idx := fun a => match a with
  | 0 => k
  | 1 => r
  | 2 => (0 : Fin 1)

/-- Column `c` of the row taken for that entry. -/
abbrev cell (k : Fin 8) (r : Fin 50000) (c : Fin 128) : S8x50000x128.Idx := fun a => match a with
  | 0 => k
  | 1 => r
  | 2 => c

/-- An element of the table with its row of zeros. -/
abbrev paddedAt (r : Fin 100001) (c : Fin 128) : S100001x128.Idx := fun a => match a with
  | 0 => r
  | 1 => c

variable {F : FTy → Type} [FloatOps F]

/-! ## The reference's arrays, one by one -/

/-- The indices plus one. -/
def next (a : IVec S8x50000 32) : IVec S8x50000 32 := addi a (broadcastInDim S8x50000 ![] bcast_S_S8x50000 (constantI S_ 32 1#32))

/-- The row numbers that the take starts from. -/
def starts (a : IVec S8x50000 32) : IVec S8x50000x1 32 :=
  broadcastInDim S8x50000x1 ![0, 1] bcast_S8x50000_S8x50000x1_0_1
    (select (cmpi .slt (next a) (broadcastInDim S8x50000 ![] bcast_S_S8x50000 (constantI S_ 32 0#32)))
      (addi (next a) (broadcastInDim S8x50000 ![] bcast_S_S8x50000 (constantI S_ 32 100001#32))) (next a))

/-- Per row number, whether it is at least 0 and at most 100000. -/
def within (a : IVec S8x50000 32) : IVec S8x50000x1 1 :=
  andi (cmpi .sge (starts a) (broadcastInDim S8x50000x1 ![] bcast_S_S8x50000x1 (constantI S_ 32 0#32)))
    (cmpi .sle (starts a) (broadcastInDim S8x50000x1 ![0, 1, 2] bcast_S1x1x1_S8x50000x1_0_1_2
      (broadcastInDim S1x1x1 ![2] bcast_S1_S1x1x1_2 (constantI S1 32 100000#32))))

/-- The same without the axis of one. -/
def inside (a : IVec S8x50000 32) : IVec S8x50000 1 :=
  Host.reduce IntOp.andi (within a) (constantI S_ 1 1#1) reducesTo_S8x50000x1_S8x50000_d2 h_S_

/-- The table with a row of zeros in front. -/
def padded (f : FVec F S100000x128 .f32) : FVec F S100001x128 .f32 :=
  Cert.ReferenceIdeal.Value.fn_main_v1 (F := F) (broadcastInDim S1x128 ![] bcast_S_S1x128 (constant S_ .f32 0x00000000#32)) f

/-- The rows taken. -/
def taken (f : FVec F S100000x128 .f32) (a : IVec S8x50000 32) : FVec F S8x50000x128 .f32 :=
  select (broadcastInDim S8x50000x128 ![0, 1] bcast_S8x50000_S8x50000x128_0_1 (inside a))
    (Host.gather gather_S100001x128_S8x50000x1_S8x50000x128_2_0_n_n_0_2_1128 (padded f) (starts a))
    (broadcastInDim S8x50000x128 ![] bcast_S_S8x50000x128 (constant S_ .f32 0x7FC00000#32))

/-- Their means. -/
def means (f : FVec F S100000x128 .f32) (a : IVec S8x50000 32) : FVec F S50000x128 .f32 :=
  Host.divf (Host.reduceAdd (taken f a) (constant S_ .f32 0x00000000#32) reducesTo_S8x50000x128_S50000x128_d0 h_S_)
    (broadcastInDim S50000x128 ![] bcast_S_S50000x128 (constant S_ .f32 0x41000000#32))

/-! ## What they hold when every index is in range -/

/-- A row number is the index plus one. -/
theorem starts_at {a : IVec S8x50000 32} (h : ∀ j, (a j).toNat < 100000) (k : Fin 8) (r : Fin 50000) :
    starts a (entry1 k r) = a (entry k r) + 1#32 := by
  have e : starts a (entry1 k r) = Scalar.select (IntOp.cmpi .slt (a (entry k r) + 1#32) 0#32)
      (IntOp.addi (a (entry k r) + 1#32) 100001#32) (a (entry k r) + 1#32) := by
    refine congrArg (select _ _ (next a)) (?_ : _ = entry k r)
    funext b; match b with
    | 0 => rfl
    | 1 => rfl
  rw [e, (next_word (h _)).2.2.1]; rfl

/-- Every row number is in range. -/
theorem inside_at {a : IVec S8x50000 32} (h : ∀ j, (a j).toNat < 100000) (j : S8x50000.Idx) : inside a j = 1#1 := by
  refine Host.reduce_andi_one _ _ _ _ _ rfl fun i => ?_
  obtain ⟨k, r, rfl⟩ : ∃ k r, i = entry1 k r := ⟨i 0, i 1, funext fun b => match b with
    | 0 => rfl
    | 1 => rfl
    | 2 => Subsingleton.elim (α := Fin 1) _ _⟩
  obtain ⟨-, -, -, hge, hle⟩ := next_word (h (entry k r))
  show IntOp.andi (IntOp.cmpi .sge (starts a (entry1 k r)) 0#32) (IntOp.cmpi .sle (starts a (entry1 k r)) 100000#32) = 1#1
  rw [starts_at h, hge, hle]; rfl

/-- The table's row `n` is row `n + 1` once the zeros stand in front. -/
theorem padded_at (f : FVec F S100000x128 .f32) (n : Fin 100000) (c : Fin 128) :
    padded f (paddedAt n.succ c) = f (featAt n c) :=
  concatenate_pair_apply_right (t := S100001x128) (s₁ := S1x128) (s₂ := S100000x128) 0
    (broadcastInDim S1x128 ![] bcast_S_S1x128 (constant S_ .f32 0x00000000#32)) f concatenates_S1x128_S100000x128_S100001x128_d0
    (paddedAt n.succ c) rfl rfl (featAt n c)
    (fun b hb => match b with
      | 0 => absurd rfl hb
      | 1 => rfl)
    rfl

/-- The gather's dimension numbers. -/
abbrev dims := gather_S100001x128_S8x50000x1_S8x50000x128_2_0_n_n_0_2_1128

/-- The gather read at an element: the operand's row that the row number there names, read signed and kept within the table. -/
theorem gather_at (x : FVec F S100001x128 .f32) (s : IVec S8x50000x1 32) (k : Fin 8) (r : Fin 50000) (c : Fin 128) (n : Fin 100001)
    (hn : min (s (entry1 k r)).toInt.toNat 100000 = n.val) :
    Host.gather dims x s (cell k r c) = x (paddedAt n c) := by
  refine congrArg x (funext fun b => Fin.ext ?_)
  have hb : ∀ b : Fin 2, dims.batchCoord (cell k r c) b = 0 := fun b => dims.batchCoord_eq_zero _ _ List.not_mem_nil
  match b with
  | 0 =>
    have hs : dims.start (cell k r c) s 0 = n.val := by
      refine (dif_pos (List.mem_singleton.2 rfl)).trans (Eq.trans ?_ hn)
      refine congrArg (fun i => min (s i).toInt.toNat 100000) (funext fun d => ?_)
      match d with
      | 0 => rfl
      | 1 => rfl
      | 2 => exact Subsingleton.elim (α := Fin 1) _ _
    show dims.start (cell k r c) s 0 + dims.batchCoord (cell k r c) 0 + dims.offCoord (cell k r c) 0 = n.val
    rw [hs, hb, dims.offCoord_eq_zero _ _ (by decide)]; rfl
  | 1 =>
    have hs : dims.start (cell k r c) s 1 = 0 := dif_neg (by decide)
    have ho : dims.offCoord (cell k r c) 1 = c.val := (dif_pos (by decide)).trans rfl
    show dims.start (cell k r c) s 1 + dims.batchCoord (cell k r c) 1 + dims.offCoord (cell k r c) 1 = c.val
    rw [hs, hb, ho]; exact Nat.zero_add _

/-- The row taken for an index in range is the table's row at that index. -/
theorem taken_at (f : FVec F S100000x128 .f32) {a : IVec S8x50000 32} (h : ∀ j, (a j).toNat < 100000)
    (k : Fin 8) (r : Fin 50000) (c : Fin 128) : taken f a (cell k r c) = f (featAt (rowOfWord (a (entry k r))) c) := by
  have hin : broadcastInDim S8x50000x128 ![0, 1] bcast_S8x50000_S8x50000x128_0_1 (inside a) (cell k r c) = 1#1 := inside_at h _
  have e : taken f a (cell k r c) = Host.gather dims (padded f) (starts a) (cell k r c) :=
    (congrArg (fun b => Scalar.select b (Host.gather dims (padded f) (starts a) (cell k r c)) (Scalar.ofBits .f32 0x7FC00000#32)) hin).trans rfl
  have hw := h (entry k r)
  have hv : (rowOfWord (a (entry k r))).val = (a (entry k r)).toNat := Nat.mod_eq_of_lt hw
  refine e.trans ((gather_at (padded f) (starts a) k r c (rowOfWord (a (entry k r))).succ ?_).trans (padded_at f _ c))
  rw [starts_at h, (next_word hw).2.1, Fin.val_succ, hv]; omega

/-! ## The mean, over the extended reals -/

/-- The kernel's factor is one eighth. -/
theorem eighth : Ideal.ofBits .f32 0x3E000000#32 = ((8⁻¹ : ℝ) : EReal) := by
  simp [Ideal.ofBits, Ideal.ieee, -EReal.coe_mul]; norm_num

/-- The reference's divisor is eight. -/
theorem eight : Ideal.ofBits .f32 0x41000000#32 = ((8 : ℝ) : EReal) := by
  simp [Ideal.ofBits, Ideal.ieee, -EReal.coe_mul]; norm_num

/-- A sum of eight values, begun at 0 and divided by 8, is the kernel's mean of the eight. -/
theorem mean_eq (v : Fin 8 → EReal) :
    Ideal.div (Ideal.ofBits .f32 0x00000000#32 + ∑ k, v k) (Ideal.ofBits .f32 0x41000000#32) = meanOf (F := Ideal) v := by
  have h8 : ((8 : ℝ) : EReal) ≠ 0 := by exact_mod_cast (by norm_num : (8 : ℝ) ≠ 0)
  rw [Ideal.ofBits_zero_f32, zero_add, eight, Ideal.div, if_neg h8, Fin.sum_univ_eight, ← EReal.coe_inv, ← eighth]
  rfl

/-- The axis of eight is the one that the sum runs over. -/
theorem sum_axis : S8x50000x128.Reduces [0] S50000x128 := by decide

/-- **The reference's result**, for indices in range: the kernel's means of the same table and list. -/
theorem means_eq (f : FVec Ideal S100000x128 .f32) {a : IVec S8x50000 32} (h : ∀ j, (a j).toNat < 100000) :
    means f a = meanRows f (flat a) := by
  funext x
  have hflat : ∀ k : Fin 8, flat a (listAt k (x 0)) = a (entry k (x 0)) := fun k => by
    refine congrArg a (Shape.reshapeEquiv_eq_of_rowMajor _ ?_)
    refine (Shape.rowMajor_val_two _).trans (Eq.trans ?_ (Shape.rowMajor_val_one _).symm)
    show k.val * 50000 + (x 0).val = 50000 * k.val + (x 0).val
    omega
  have hsum : means f a x = Ideal.div (Ideal.ofBits .f32 0x00000000#32 + ∑ k : Fin 8, taken f a (sum_axis.lift x k))
      (Ideal.ofBits .f32 0x41000000#32) :=
    congrArg (fun y => Ideal.div y (Ideal.ofBits .f32 0x41000000#32))
      (Ideal.hostReduceAdd_single reducesTo_S8x50000x128_S50000x128_d0 sum_axis (taken f a) _ x)
  have hcell : ∀ k : Fin 8, sum_axis.lift x k = cell k (x 0) (x 1) := fun k => funext fun b => match b with
    | 0 => rfl
    | 1 => rfl
    | 2 => rfl
  rw [hsum, mean_eq]
  refine congrArg (meanOf (F := Ideal)) (funext fun k => ?_)
  refine (congrArg (taken f a) (hcell k)).trans ((taken_at f h k (x 0) (x 1)).trans ?_)
  exact congrArg (fun w => f (featAt (rowOfWord w) (x 1))) (hflat k).symm

/-! ## Its run -/

/-- **The reference's run**: from any memory every weakly fair execution ends with the result at `means` of the
    arguments, the arguments as they were and every semaphore counter at zero. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
          = means (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨h, sem_eq_zero_of_no_sems (by decide) r.2⟩)
    (Cert.ReferenceIdeal.Value.run m ρ)

end Cert.GatherMean.Ref

end
-- ==== Proof.lean ====
/-
  The proof of `Cert.Claim`: the kernel's frame at the chip's own floats and at the extended reals, the reference's
  frame, that the two printed texts of the kernel are one (nothing was rewritten), and that over the extended reals
  the kernel's result is the reference's. The index list is assumed to name rows of the table.

  In order: Proof/Setup.lean (the resources, the value), Proof/RowLoop.lean (the arithmetic of a chunk),
  Proof/GatherBatch.lean, Proof/Fetch.lean and Proof/Gather.lean (the copies and the gathers, many in flight),
  Proof/Trip.lean (one chunk), Proof/Tile.lean (one tile's task), Proof/Launch.lean (the whole program),
  Proof/Ranges.lean (the precondition) and Proof/Reference.lean (the reference).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_rows
public import proofs.«01_k».proof.Proof.Launch
public import proofs.«01_k».proof.Proof.Ranges
public import proofs.«01_k».proof.Proof.Reference

@[expose] public section

noncomputable section

namespace Cert.Proof

open Idealize.ShloMosaic Idealize.SL.Sem Cert.GatherMean

/-- The kernel's frame at the chip's floats: every weakly fair execution ends without a fault, the table and the
    index list as they were, every semaphore counter at zero. -/
theorem frame_kernel : Cert.quiescent_Kernel := fun m ρ hpre =>
  (θ_run Cert.KernelIdeal.defs _ _).mono (fun _ h => ⟨fun c => (h.1 c).2, h.2⟩)
    (run_main (F := Bits) m ρ fun c j => entries_below _ _ (hpre c) j)

/-- The same at the extended reals. -/
theorem frame_ideal : Cert.quiescent_KernelIdeal := fun m ρ hpre =>
  (θ_run Cert.KernelIdeal.defs _ _).mono (fun _ h => ⟨fun c => (h.1 c).2, h.2⟩)
    (run_main (F := Ideal) m ρ fun c j => entries_below _ _ (hpre c) j)

/-- The reference's frame, for any index list. -/
theorem frame_reference : Cert.quiescent_ReferenceIdeal := fun m ρ _ =>
  (θ_run Cert.ReferenceIdeal.defs _ _).mono (fun _ h => ⟨fun c => (h.1 c).2, h.2⟩) (Ref.run_reference (F := Ideal) m ρ)

/-- The reference's frame under the precondition, which it does not need. -/
theorem frame_reference_pre : Cert.quiescent_ReferenceIdeal_pre_idx_in_rows := fun m ρ _ => frame_reference m ρ trivial

/-- Over the extended reals the kernel's result is the reference's: both are `meanRows` of the table and the list. -/
theorem same_means : Cert.algebraic_KernelIdeal_ReferenceIdeal := fun m ρ m' ρ' hpre hargs => by
  have hin : InRows m := fun c j => entries_below _ _ (hpre c) j
  refine ⟨fun c => meanRows (F := Ideal) (feat₀ m c) (list₀ m c), ?_, ?_⟩
  · exact (θ_run Cert.KernelIdeal.defs _ _).mono (fun _ h => h.1) (run_main (F := Ideal) m ρ hin)
  · refine (θ_run Cert.ReferenceIdeal.defs _ _).mono (fun _ h c => ⟨(h.1 c).1.trans ?_, (h.1 c).2⟩)
      (Ref.run_reference (F := Ideal) m' ρ')
    obtain ⟨hf, ha⟩ := hargs c
    rw [hf, ha]
    exact Ref.means_eq _ (hin c)

/-- Everything claimed. -/
theorem claim : Cert.Claim :=
  ⟨Cert.Kernel.Gen.facts, Cert.KernelIdeal.Gen.facts, Cert.ReferenceIdeal.Gen.facts, Cert.Pre_idx_in_rows.Gen.facts,
    frame_kernel, frame_ideal, frame_reference, frame_reference_pre, trivial, same_means⟩

end Cert.Proof

end
